-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linear_table [hPre_linear_table : Cert.Pre_linear_table.Facts] (m : (ℓ : Loc Cert.KernelIdeal.nD Cert.KernelIdeal.τ Cert.KernelIdeal.sig) → Buf (Elt Ideal) ℓ) : Prop :=
  ∀ c : Dev Cert.KernelIdeal.nD,
    (Cert.Pre_linear_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linear_table [hPre_linear_table : Cert.Pre_linear_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linear_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_linear_table [hKernelIdeal : Cert.KernelIdeal.Facts] [hPre_linear_table : Cert.Pre_linear_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linear_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_linear_table [hReferenceIdeal : Cert.ReferenceIdeal.Facts] [hPre_linear_table : Cert.Pre_linear_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linear_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_linear_table [hKernelIdeal : Cert.KernelIdeal.Facts] [hReferenceIdeal : Cert.ReferenceIdeal.Facts] [hPre_linear_table : Cert.Pre_linear_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linear_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_linear_table : Cert.Pre_linear_table.Facts),
    quiescent_Kernel (hKernel := hKernel)
    ∧ quiescent_KernelIdeal (hKernelIdeal := hKernelIdeal)
    ∧ quiescent_KernelIdeal_pre_linear_table (hKernelIdeal := hKernelIdeal) (hPre_linear_table := hPre_linear_table)
    ∧ quiescent_ReferenceIdeal (hReferenceIdeal := hReferenceIdeal)
    ∧ quiescent_ReferenceIdeal_pre_linear_table (hReferenceIdeal := hReferenceIdeal) (hPre_linear_table := hPre_linear_table)
    ∧ preserves_Kernel_KernelIdeal
    ∧ algebraic_KernelIdeal_ReferenceIdeal_pre_linear_table (hKernelIdeal := hKernelIdeal) (hReferenceIdeal := hReferenceIdeal) (hPre_linear_table := hPre_linear_table)
-- ==== Pre_linear_table.lean ====
abbrev S2x32x112x112 : Shape := ⟨4, ![2, 32, 112, 112]⟩
abbrev S64x32x4x4x256 : Shape := ⟨5, ![64, 32, 4, 4, 256]⟩
abbrev S64 : Shape := ⟨1, ![64]⟩
abbrev S256 : Shape := ⟨1, ![256]⟩
abbrev S64x32x4x4x1 : Shape := ⟨5, ![64, 32, 4, 4, 1]⟩
abbrev S1x1x1x1x256 : Shape := ⟨5, ![1, 1, 1, 1, 256]⟩
abbrev S_ : Shape := ⟨0, ![]⟩

class Facts : Prop where
  slices_S64x32x4x4x256_S64x32x4x4x1_0_0_0_0_1 : S64x32x4x4x256.Slices ![0, 0, 0, 0, 1] S64x32x4x4x1
  bcast_S256_S1x1x1x1x256_4 : S256.BroadcastsInDim S1x1x1x1x256 (![4] : Fin 1 → Fin S1x1x1x1x256.rank)
  bcast_S64x32x4x4x1_S64x32x4x4x256_0_1_2_3_4 : S64x32x4x4x1.BroadcastsInDim S64x32x4x4x256 (![0, 1, 2, 3, 4] : Fin 5 → Fin S64x32x4x4x256.rank)
  bcast_S1x1x1x1x256_S64x32x4x4x256_0_1_2_3_4 : S1x1x1x1x256.BroadcastsInDim S64x32x4x4x256 (![0, 1, 2, 3, 4] : Fin 5 → Fin S64x32x4x4x256.rank)
  reducesTo_S64x32x4x4x256_S_d0_1_2_3_4 : S64x32x4x4x256.ReducesTo [0, 1, 2, 3, 4] S_
  h_S_ : 0 < S_.numel
  bcast_S_S64x32x4x4x1 : S_.BroadcastsInDim S64x32x4x4x1 (![] : Fin 0 → Fin S64x32x4x4x1.rank)
  reducesTo_S64x32x4x4x1_S_d0_1_2_3_4 : S64x32x4x4x1.ReducesTo [0, 1, 2, 3, 4] S_

variable [Facts]

def fn {F : FTy → Type} [FloatOps F] (main_arg0 : FVec F S2x32x112x112 .f32) (main_arg1 : FVec F S64x32x4x4x256 .f32) (main_arg2 : FVec F S64 .f32) : IVec S_ 1 :=
  let main_v0 : FVec F S256 .f32 := sitofp .f32 (iotaInDim S256 32 0)
  let main_v1 : FVec F S64x32x4x4x1 .f32 := (extractStridedSlice S64x32x4x4x1 ![0, 0, 0, 0, 1] · slices_S64x32x4x4x256_S64x32x4x4x1_0_0_0_0_1) main_arg1
  let main_v2 : FVec F S1x1x1x1x256 .f32 := broadcastInDim S1x1x1x1x256 ![4] bcast_S256_S1x1x1x1x256_4 main_v0
  let main_v3 : FVec F S64x32x4x4x256 .f32 := broadcastInDim S64x32x4x4x256 ![0, 1, 2, 3, 4] bcast_S64x32x4x4x1_S64x32x4x4x256_0_1_2_3_4 main_v1
  let main_v4 : FVec F S64x32x4x4x256 .f32 := broadcastInDim S64x32x4x4x256 ![0, 1, 2, 3, 4] bcast_S1x1x1x1x256_S64x32x4x4x256_0_1_2_3_4 main_v2
  let main_v5 : FVec F S64x32x4x4x256 .f32 := mulf main_v3 main_v4
  let main_v6 : IVec S64x32x4x4x256 1 := cmpf .oeq main_arg1 main_v5
  let main_c : IVec S_ 1 := constantI S_ 1 1#1
  let main_v7 : IVec S_ 1 := (fun x v => Host.reduce IntOp.andi x v reducesTo_S64x32x4x4x256_S_d0_1_2_3_4 h_S_) main_v6 main_c
  let main_v8 : FVec F S64x32x4x4x1 .f32 := Host.absf main_v1
  let main_cst : FVec F S_ .f32 := constant S_ .f32 0x7F800000#32
  let main_v9 : FVec F S64x32x4x4x1 .f32 := broadcastInDim S64x32x4x4x1 ![] bcast_S_S64x32x4x4x1 main_cst
  let main_v10 : IVec S64x32x4x4x1 1 := cmpf .olt main_v8 main_v9
  let main_c_0 : IVec S_ 1 := constantI S_ 1 1#1
  let main_v11 : IVec S_ 1 := (fun x v => Host.reduce IntOp.andi x v reducesTo_S64x32x4x4x1_S_d0_1_2_3_4 h_S_) main_v10 main_c_0
  let main_v12 : IVec S_ 1 := andi main_v7 main_v11
  main_v12
-- ==== Kernel.lean ====
abbrev S2x32x112x112 : Shape := ⟨4, ![2, 32, 112, 112]⟩
abbrev S64x32x4x4x256 : Shape := ⟨5, ![64, 32, 4, 4, 256]⟩
abbrev S64 : Shape := ⟨1, ![64]⟩
abbrev S2x32x56x2x112 : Shape := ⟨5, ![2, 32, 56, 2, 112]⟩
abbrev S64x32x4x4x1 : Shape := ⟨5, ![64, 32, 4, 4, 1]⟩
abbrev S64x32x4x4 : Shape := ⟨4, ![64, 32, 4, 4]⟩
abbrev S64x32x1x1 : Shape := ⟨4, ![64, 32, 1, 1]⟩
abbrev S64x32 : Shape := ⟨2, ![64, 32]⟩
abbrev S1x64x32 : Shape := ⟨3, ![1, 64, 32]⟩
abbrev S5x64x32 : Shape := ⟨3, ![5, 64, 32]⟩
abbrev S5x32x64 : Shape := ⟨3, ![5, 32, 64]⟩
abbrev S64x1 : Shape := ⟨2, ![64, 1]⟩
abbrev S2x64x55x2x110 : Shape := ⟨5, ![2, 64, 55, 2, 110]⟩
abbrev S2x64x11x2x110 : Shape := ⟨5, ![2, 64, 11, 2, 110]⟩
abbrev S1x32x64 : Shape := ⟨3, ![1, 32, 64]⟩
abbrev S32x64 : Shape := ⟨2, ![32, 64]⟩
abbrev S32x256 : Shape := ⟨2, ![32, 256]⟩
abbrev S64x128 : Shape := ⟨2, ![64, 128]⟩
abbrev S32x16 : Shape := ⟨2, ![32, 16]⟩
abbrev S1x32x1x2x112 : Shape := ⟨5, ![1, 32, 1, 2, 112]⟩
abbrev S32x2x112 : Shape := ⟨3, ![32, 2, 112]⟩
abbrev S32x1x112 : Shape := ⟨3, ![32, 1, 112]⟩
abbrev S32x112 : Shape := ⟨2, ![32, 112]⟩
abbrev S32x111 : Shape := ⟨2, ![32, 111]⟩
abbrev S32x1 : Shape := ⟨2, ![32, 1]⟩
abbrev S32x110 : Shape := ⟨2, ![32, 110]⟩
abbrev S32x2 : Shape := ⟨2, ![32, 2]⟩
abbrev S32x128 : Shape := ⟨2, ![32, 128]⟩
abbrev S32x1408 : Shape := ⟨2, ![32, 1408]⟩
abbrev S256x1408 : Shape := ⟨2, ![256, 1408]⟩
abbrev S256x128 : Shape := ⟨2, ![256, 128]⟩
abbrev S64x127 : Shape := ⟨2, ![64, 127]⟩
abbrev S64x110 : Shape := ⟨2, ![64, 110]⟩
abbrev S1x64x1x1x110 : Shape := ⟨5, ![1, 64, 1, 1, 110]⟩

abbrev nBuf : Space → Nat
  | .hbm => 25
  | .vmem => 5
  | .smem => 0
  | _ => 0

abbrev bufTy : (tb : Table) → Fin (tcTables nBuf tb) → BufTy
  | .hbm, ⟨0, _⟩ => ⟨S2x32x112x112, .f32⟩
  | .hbm, ⟨1, _⟩ => ⟨S64x32x4x4x256, .f32⟩
  | .hbm, ⟨2, _⟩ => ⟨S64, .f32⟩
  | .hbm, ⟨3, _⟩ => ⟨S2x32x56x2x112, .f32⟩
  | .hbm, ⟨4, _⟩ => ⟨S64x32x4x4x1, .f32⟩
  | .hbm, ⟨5, _⟩ => ⟨S64x32x4x4, .f32⟩
  | .hbm, ⟨6, _⟩ => ⟨S64x32x1x1, .f32⟩
  | .hbm, ⟨7, _⟩ => ⟨S64x32, .f32⟩
  | .hbm, ⟨8, _⟩ => ⟨S64x32x1x1, .f32⟩
  | .hbm, ⟨9, _⟩ => ⟨S64x32, .f32⟩
  | .hbm, ⟨10, _⟩ => ⟨S64x32x1x1, .f32⟩
  | .hbm, ⟨11, _⟩ => ⟨S64x32, .f32⟩
  | .hbm, ⟨12, _⟩ => ⟨S64x32x1x1, .f32⟩
  | .hbm, ⟨13, _⟩ => ⟨S64x32, .f32⟩
  | .hbm, ⟨14, _⟩ => ⟨S64x32x1x1, .f32⟩
  | .hbm, ⟨15, _⟩ => ⟨S64x32, .f32⟩
  | .hbm, ⟨16, _⟩ => ⟨S1x64x32, .f32⟩
  | .hbm, ⟨17, _⟩ => ⟨S1x64x32, .f32⟩
  | .hbm, ⟨18, _⟩ => ⟨S1x64x32, .f32⟩
  | .hbm, ⟨19, _⟩ => ⟨S1x64x32, .f32⟩
  | .hbm, ⟨20, _⟩ => ⟨S1x64x32, .f32⟩
  | .hbm, ⟨21, _⟩ => ⟨S5x64x32, .f32⟩
  | .hbm, ⟨22, _⟩ => ⟨S5x32x64, .f32⟩
  | .hbm, ⟨23, _⟩ => ⟨S64x1, .f32⟩
  | .hbm, ⟨24, _⟩ => ⟨S2x64x55x2x110, .f32⟩
  | .local _ .vmem, ⟨0, _⟩ => ⟨S2x32x56x2x112, .f32⟩
  | .local _ .vmem, ⟨1, _⟩ => ⟨S5x32x64, .f32⟩
  | .local _ .vmem, ⟨2, _⟩ => ⟨S64x1, .f32⟩
  | .local _ .vmem, ⟨3, _⟩ => ⟨S2x64x11x2x110, .f32⟩
  | .local _ .vmem, ⟨4, _⟩ => ⟨S2x64x11x2x110, .f32⟩
  | _, _ => ⟨S2x32x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![5], ![false]⟩

def k0_off1 (i : grid0.Coords) (c0_i32_8 : BitVec 32) : Fin 5 → Nat :=
  let c0_9 : Index := 0#32
  let c0_10 : Index := 0#32
  let c11_i32 : BitVec 32 := 11#32
  let arg0 : BitVec 32 := BitVec.ofNat 32 (i 0).val
  let v0 : BitVec 32 := Scalar.muli c11_i32 arg0
  let v67 : BitVec 32 := Scalar.addi v0 c0_i32_8
  let v68 : Index := Scalar.indexCast v67
  let c0_11 : Index := 0#32
  let c0_12 : Index := 0#32
  ![0, 0, v68.toNat, 0, 0]
def k0_off2 (i : grid0.Coords) (c0_i32_208 : BitVec 32) : Fin 5 → Nat :=
  let c1_209 : Index := 1#32
  let c0_210 : Index := 0#32
  let c11_i32 : BitVec 32 := 11#32
  let arg0 : BitVec 32 := BitVec.ofNat 32 (i 0).val
  let v0 : BitVec 32 := Scalar.muli c11_i32 arg0
  let v655 : BitVec 32 := Scalar.addi v0 c0_i32_208
  let v656 : Index := Scalar.indexCast v655
  let c0_211 : Index := 0#32
  let c0_212 : Index := 0#32
  ![1, 0, v656.toNat, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 1 → Memref sig .tc .vmem S2x32x56x2x112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x11x2x110 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x32x112x112 : Shape := ⟨4, ![2, 32, 112, 112]⟩
abbrev S64x32x4x4x256 : Shape := ⟨5, ![64, 32, 4, 4, 256]⟩
abbrev S64 : Shape := ⟨1, ![64]⟩
abbrev S4x4 : Shape := ⟨2, ![4, 4]⟩
abbrev S4x2 : Shape := ⟨2, ![4, 2]⟩
abbrev S_ : Shape := ⟨0, ![]⟩
abbrev S2x32x55x55 : Shape := ⟨4, ![2, 32, 55, 55]⟩
abbrev S2x32x1x55x55 : Shape := ⟨5, ![2, 32, 1, 55, 55]⟩
abbrev S2x32x16x55x55 : Shape := ⟨5, ![2, 32, 16, 55, 55]⟩
abbrev S2x32x16x3025 : Shape := ⟨4, ![2, 32, 16, 3025]⟩
abbrev S1x1x4x4x1 : Shape := ⟨5, ![1, 1, 4, 4, 1]⟩
abbrev S2x32x3025 : Shape := ⟨3, ![2, 32, 3025]⟩
abbrev S2x32x1x1x3025 : Shape := ⟨5, ![2, 32, 1, 1, 3025]⟩
abbrev S2x32x4x4x3025 : Shape := ⟨5, ![2, 32, 4, 4, 3025]⟩
abbrev S64x32x1x1x256 : Shape := ⟨5, ![64, 32, 1, 1, 256]⟩
abbrev S64x32x256 : Shape := ⟨3, ![64, 32, 256]⟩
abbrev S32x2x3025 : Shape := ⟨3, ![32, 2, 3025]⟩
abbrev S32x2x3025x1 : Shape := ⟨4, ![32, 2, 3025, 1]⟩
abbrev S32x64x256 : Shape := ⟨3, ![32, 64, 256]⟩
abbrev S32x64x2x3025 : Shape := ⟨4, ![32, 64, 2, 3025]⟩
abbrev S64x2x3025 : Shape := ⟨3, ![64, 2, 3025]⟩
abbrev S2x64x3025 : Shape := ⟨3, ![2, 64, 3025]⟩
abbrev S2x64x1x3025 : Shape := ⟨4, ![2, 64, 1, 3025]⟩
abbrev S2x64x16x3025 : Shape := ⟨4, ![2, 64, 16, 3025]⟩
abbrev S2x64x4x4x3025 : Shape := ⟨5, ![2, 64, 4, 4, 3025]⟩
abbrev S2x64x4x3025x2 : Shape := ⟨5, ![2, 64, 4, 3025, 2]⟩
abbrev S2x64x3025x2x2 : Shape := ⟨5, ![2, 64, 3025, 2, 2]⟩
abbrev S2x64x2x2x3025 : Shape := ⟨5, ![2, 64, 2, 2, 3025]⟩
abbrev S2x64x2x2x55x55 : Shape := ⟨6, ![2, 64, 2, 2, 55, 55]⟩
abbrev S2x64x55x2x55x2 : Shape := ⟨6, ![2, 64, 55, 2, 55, 2]⟩
abbrev S2x64x55x2x110 : Shape := ⟨5, ![2, 64, 55, 2, 110]⟩
abbrev S1x64x1x1x1 : Shape := ⟨5, ![1, 64, 1, 1, 1]⟩

abbrev nBuf : Space → Nat
  | .hbm => 382
  | .vmem => 0
  | .smem => 0
  | _ => 0

abbrev hbmTy0_0 (i : Nat) : BufTy := match i % 128 with
  | 0 => ⟨S2x32x112x112, .f32⟩
  | 1 => ⟨S64x32x4x4x256, .f32⟩
  | 2 => ⟨S64, .f32⟩
  | 3 => ⟨S4x4, .f32⟩
  | 4 => ⟨S4x2, .f32⟩
  | 5 => ⟨S_, .f32⟩
  | 6 => ⟨S2x32x112x112, .f32⟩
  | 7 => ⟨S2x32x112x112, .f32⟩
  | 8 => ⟨S2x32x112x112, .f32⟩
  | 9 => ⟨S_, .i32⟩
  | 10 => ⟨S_, .i32⟩
  | 11 => ⟨S_, .f32⟩
  | 12 => ⟨S2x32x112x112, .f32⟩
  | 13 => ⟨S2x32x112x112, .f32⟩
  | 14 => ⟨S_, .f32⟩
  | 15 => ⟨S2x32x112x112, .f32⟩
  | 16 => ⟨S2x32x112x112, .f32⟩
  | 17 => ⟨S2x32x55x55, .f32⟩
  | 18 => ⟨S2x32x55x55, .f32⟩
  | 19 => ⟨S2x32x55x55, .f32⟩
  | 20 => ⟨S2x32x55x55, .f32⟩
  | 21 => ⟨S2x32x55x55, .f32⟩
  | 22 => ⟨S2x32x55x55, .f32⟩
  | 23 => ⟨S2x32x55x55, .f32⟩
  | 24 => ⟨S2x32x55x55, .f32⟩
  | 25 => ⟨S2x32x55x55, .f32⟩
  | 26 => ⟨S2x32x55x55, .f32⟩
  | 27 => ⟨S2x32x55x55, .f32⟩
  | 28 => ⟨S2x32x55x55, .f32⟩
  | 29 => ⟨S2x32x55x55, .f32⟩
  | 30 => ⟨S2x32x55x55, .f32⟩
  | 31 => ⟨S2x32x55x55, .f32⟩
  | 32 => ⟨S2x32x55x55, .f32⟩
  | 33 => ⟨S2x32x1x55x55, .f32⟩
  | 34 => ⟨S2x32x1x55x55, .f32⟩
  | 35 => ⟨S2x32x1x55x55, .f32⟩
  | 36 => ⟨S2x32x1x55x55, .f32⟩
  | 37 => ⟨S2x32x1x55x55, .f32⟩
  | 38 => ⟨S2x32x1x55x55, .f32⟩
  | 39 => ⟨S2x32x1x55x55, .f32⟩
  | 40 => ⟨S2x32x1x55x55, .f32⟩
  | 41 => ⟨S2x32x1x55x55, .f32⟩
  | 42 => ⟨S2x32x1x55x55, .f32⟩
  | 43 => ⟨S2x32x1x55x55, .f32⟩
  | 44 => ⟨S2x32x1x55x55, .f32⟩
  | 45 => ⟨S2x32x1x55x55, .f32⟩
  | 46 => ⟨S2x32x1x55x55, .f32⟩
  | 47 => ⟨S2x32x1x55x55, .f32⟩
  | 48 => ⟨S2x32x1x55x55, .f32⟩
  | 49 => ⟨S2x32x16x55x55, .f32⟩
  | 50 => ⟨S2x32x16x3025, .f32⟩
  | 51 => ⟨S1x1x4x4x1, .f32⟩
  | 52 => ⟨S_, .f32⟩
  | 53 => ⟨S2x32x3025, .f32⟩
  | 54 => ⟨S2x32x1x1x3025, .f32⟩
  | 55 => ⟨S2x32x4x4x3025, .f32⟩
  | 56 => ⟨S2x32x4x4x3025, .f32⟩
  | 57 => ⟨S2x32x4x4x3025, .f32⟩
  | 58 => ⟨S2x32x4x4x3025, .i32⟩
  | 59 => ⟨S_, .i32⟩
  | 60 => ⟨S_, .i32⟩
  | 61 => ⟨S_, .i32⟩
  | 62 => ⟨S2x32x4x4x3025, .i32⟩
  | 63 => ⟨S2x32x4x4x3025, .i32⟩
  | 64 => ⟨S_, .i32⟩
  | 65 => ⟨S2x32x4x4x3025, .i32⟩
  | 66 => ⟨S2x32x4x4x3025, .i32⟩
  | 67 => ⟨S64x32x1x1x256, .f32⟩
  | 68 => ⟨S64x32x256, .f32⟩
  | 69 => ⟨S2x32x1x1x3025, .i32⟩
  | 70 => ⟨S2x32x3025, .i32⟩
  | 71 => ⟨S_, .i32⟩
  | 72 => ⟨S2x32x3025, .i32⟩
  | 73 => ⟨S2x32x3025, .i1⟩
  | 74 => ⟨S_, .i32⟩
  | 75 => ⟨S2x32x3025, .i32⟩
  | 76 => ⟨S2x32x3025, .i32⟩
  | 77 => ⟨S2x32x3025, .i32⟩
  | 78 => ⟨S32x2x3025, .i32⟩
  | 79 => ⟨S32x2x3025x1, .i32⟩
  | 80 => ⟨S32x64x256, .f32⟩
  | 81 => ⟨S32x64x2x3025, .f32⟩
  | 82 => ⟨S_, .f32⟩
  | 83 => ⟨S64x2x3025, .f32⟩
  | 84 => ⟨S2x64x3025, .f32⟩
  | 85 => ⟨S64x32x1x1x256, .f32⟩
  | 86 => ⟨S64x32x256, .f32⟩
  | 87 => ⟨S2x32x1x1x3025, .i32⟩
  | 88 => ⟨S2x32x3025, .i32⟩
  | 89 => ⟨S_, .i32⟩
  | 90 => ⟨S2x32x3025, .i32⟩
  | 91 => ⟨S2x32x3025, .i1⟩
  | 92 => ⟨S_, .i32⟩
  | 93 => ⟨S2x32x3025, .i32⟩
  | 94 => ⟨S2x32x3025, .i32⟩
  | 95 => ⟨S2x32x3025, .i32⟩
  | 96 => ⟨S32x2x3025, .i32⟩
  | 97 => ⟨S32x2x3025x1, .i32⟩
  | 98 => ⟨S32x64x256, .f32⟩
  | 99 => ⟨S32x64x2x3025, .f32⟩
  | 100 => ⟨S_, .f32⟩
  | 101 => ⟨S64x2x3025, .f32⟩
  | 102 => ⟨S2x64x3025, .f32⟩
  | 103 => ⟨S64x32x1x1x256, .f32⟩
  | 104 => ⟨S64x32x256, .f32⟩
  | 105 => ⟨S2x32x1x1x3025, .i32⟩
  | 106 => ⟨S2x32x3025, .i32⟩
  | 107 => ⟨S_, .i32⟩
  | 108 => ⟨S2x32x3025, .i32⟩
  | 109 => ⟨S2x32x3025, .i1⟩
  | 110 => ⟨S_, .i32⟩
  | 111 => ⟨S2x32x3025, .i32⟩
  | 112 => ⟨S2x32x3025, .i32⟩
  | 113 => ⟨S2x32x3025, .i32⟩
  | 114 => ⟨S32x2x3025, .i32⟩
  | 115 => ⟨S32x2x3025x1, .i32⟩
  | 116 => ⟨S32x64x256, .f32⟩
  | 117 => ⟨S32x64x2x3025, .f32⟩
  | 118 => ⟨S_, .f32⟩
  | 119 => ⟨S64x2x3025, .f32⟩
  | 120 => ⟨S2x64x3025, .f32⟩
  | 121 => ⟨S64x32x1x1x256, .f32⟩
  | 122 => ⟨S64x32x256, .f32⟩
  | 123 => ⟨S2x32x1x1x3025, .i32⟩
  | 124 => ⟨S2x32x3025, .i32⟩
  | 125 => ⟨S_, .i32⟩
  | 126 => ⟨S2x32x3025, .i32⟩
  | 127 => ⟨S2x32x3025, .i1⟩
  | _ => ⟨S2x32x112x112, .f32⟩

abbrev hbmTy0_1 (i : Nat) : BufTy := match i % 128 with
  | 0 => ⟨S_, .i32⟩
  | 1 => ⟨S2x32x3025, .i32⟩
  | 2 => ⟨S2x32x3025, .i32⟩
  | 3 => ⟨S2x32x3025, .i32⟩
  | 4 => ⟨S32x2x3025, .i32⟩
  | 5 => ⟨S32x2x3025x1, .i32⟩
  | 6 => ⟨S32x64x256, .f32⟩
  | 7 => ⟨S32x64x2x3025, .f32⟩
  | 8 => ⟨S_, .f32⟩
  | 9 => ⟨S64x2x3025, .f32⟩
  | 10 => ⟨S2x64x3025, .f32⟩
  | 11 => ⟨S64x32x1x1x256, .f32⟩
  | 12 => ⟨S64x32x256, .f32⟩
  | 13 => ⟨S2x32x1x1x3025, .i32⟩
  | 14 => ⟨S2x32x3025, .i32⟩
  | 15 => ⟨S_, .i32⟩
  | 16 => ⟨S2x32x3025, .i32⟩
  | 17 => ⟨S2x32x3025, .i1⟩
  | 18 => ⟨S_, .i32⟩
  | 19 => ⟨S2x32x3025, .i32⟩
  | 20 => ⟨S2x32x3025, .i32⟩
  | 21 => ⟨S2x32x3025, .i32⟩
  | 22 => ⟨S32x2x3025, .i32⟩
  | 23 => ⟨S32x2x3025x1, .i32⟩
  | 24 => ⟨S32x64x256, .f32⟩
  | 25 => ⟨S32x64x2x3025, .f32⟩
  | 26 => ⟨S_, .f32⟩
  | 27 => ⟨S64x2x3025, .f32⟩
  | 28 => ⟨S2x64x3025, .f32⟩
  | 29 => ⟨S64x32x1x1x256, .f32⟩
  | 30 => ⟨S64x32x256, .f32⟩
  | 31 => ⟨S2x32x1x1x3025, .i32⟩
  | 32 => ⟨S2x32x3025, .i32⟩
  | 33 => ⟨S_, .i32⟩
  | 34 => ⟨S2x32x3025, .i32⟩
  | 35 => ⟨S2x32x3025, .i1⟩
  | 36 => ⟨S_, .i32⟩
  | 37 => ⟨S2x32x3025, .i32⟩
  | 38 => ⟨S2x32x3025, .i32⟩
  | 39 => ⟨S2x32x3025, .i32⟩
  | 40 => ⟨S32x2x3025, .i32⟩
  | 41 => ⟨S32x2x3025x1, .i32⟩
  | 42 => ⟨S32x64x256, .f32⟩
  | 43 => ⟨S32x64x2x3025, .f32⟩
  | 44 => ⟨S_, .f32⟩
  | 45 => ⟨S64x2x3025, .f32⟩
  | 46 => ⟨S2x64x3025, .f32⟩
  | 47 => ⟨S64x32x1x1x256, .f32⟩
  | 48 => ⟨S64x32x256, .f32⟩
  | 49 => ⟨S2x32x1x1x3025, .i32⟩
  | 50 => ⟨S2x32x3025, .i32⟩
  | 51 => ⟨S_, .i32⟩
  | 52 => ⟨S2x32x3025, .i32⟩
  | 53 => ⟨S2x32x3025, .i1⟩
  | 54 => ⟨S_, .i32⟩
  | 55 => ⟨S2x32x3025, .i32⟩
  | 56 => ⟨S2x32x3025, .i32⟩
  | 57 => ⟨S2x32x3025, .i32⟩
  | 58 => ⟨S32x2x3025, .i32⟩
  | 59 => ⟨S32x2x3025x1, .i32⟩
  | 60 => ⟨S32x64x256, .f32⟩
  | 61 => ⟨S32x64x2x3025, .f32⟩
  | 62 => ⟨S_, .f32⟩
  | 63 => ⟨S64x2x3025, .f32⟩
  | 64 => ⟨S2x64x3025, .f32⟩
  | 65 => ⟨S64x32x1x1x256, .f32⟩
  | 66 => ⟨S64x32x256, .f32⟩
  | 67 => ⟨S2x32x1x1x3025, .i32⟩
  | 68 => ⟨S2x32x3025, .i32⟩
  | 69 => ⟨S_, .i32⟩
  | 70 => ⟨S2x32x3025, .i32⟩
  | 71 => ⟨S2x32x3025, .i1⟩
  | 72 => ⟨S_, .i32⟩
  | 73 => ⟨S2x32x3025, .i32⟩
  | 74 => ⟨S2x32x3025, .i32⟩
  | 75 => ⟨S2x32x3025, .i32⟩
  | 76 => ⟨S32x2x3025, .i32⟩
  | 77 => ⟨S32x2x3025x1, .i32⟩
  | 78 => ⟨S32x64x256, .f32⟩
  | 79 => ⟨S32x64x2x3025, .f32⟩
  | 80 => ⟨S_, .f32⟩
  | 81 => ⟨S64x2x3025, .f32⟩
  | 82 => ⟨S2x64x3025, .f32⟩
  | 83 => ⟨S64x32x1x1x256, .f32⟩
  | 84 => ⟨S64x32x256, .f32⟩
  | 85 => ⟨S2x32x1x1x3025, .i32⟩
  | 86 => ⟨S2x32x3025, .i32⟩
  | 87 => ⟨S_, .i32⟩
  | 88 => ⟨S2x32x3025, .i32⟩
  | 89 => ⟨S2x32x3025, .i1⟩
  | 90 => ⟨S_, .i32⟩
  | 91 => ⟨S2x32x3025, .i32⟩
  | 92 => ⟨S2x32x3025, .i32⟩
  | 93 => ⟨S2x32x3025, .i32⟩
  | 94 => ⟨S32x2x3025, .i32⟩
  | 95 => ⟨S32x2x3025x1, .i32⟩
  | 96 => ⟨S32x64x256, .f32⟩
  | 97 => ⟨S32x64x2x3025, .f32⟩
  | 98 => ⟨S_, .f32⟩
  | 99 => ⟨S64x2x3025, .f32⟩
  | 100 => ⟨S2x64x3025, .f32⟩
  | 101 => ⟨S64x32x1x1x256, .f32⟩
  | 102 => ⟨S64x32x256, .f32⟩
  | 103 => ⟨S2x32x1x1x3025, .i32⟩
  | 104 => ⟨S2x32x3025, .i32⟩
  | 105 => ⟨S_, .i32⟩
  | 106 => ⟨S2x32x3025, .i32⟩
  | 107 => ⟨S2x32x3025, .i1⟩
  | 108 => ⟨S_, .i32⟩
  | 109 => ⟨S2x32x3025, .i32⟩
  | 110 => ⟨S2x32x3025, .i32⟩
  | 111 => ⟨S2x32x3025, .i32⟩
  | 112 => ⟨S32x2x3025, .i32⟩
  | 113 => ⟨S32x2x3025x1, .i32⟩
  | 114 => ⟨S32x64x256, .f32⟩
  | 115 => ⟨S32x64x2x3025, .f32⟩
  | 116 => ⟨S_, .f32⟩
  | 117 => ⟨S64x2x3025, .f32⟩
  | 118 => ⟨S2x64x3025, .f32⟩
  | 119 => ⟨S64x32x1x1x256, .f32⟩
  | 120 => ⟨S64x32x256, .f32⟩
  | 121 => ⟨S2x32x1x1x3025, .i32⟩
  | 122 => ⟨S2x32x3025, .i32⟩
  | 123 => ⟨S_, .i32⟩
  | 124 => ⟨S2x32x3025, .i32⟩
  | 125 => ⟨S2x32x3025, .i1⟩
  | 126 => ⟨S_, .i32⟩
  | 127 => ⟨S2x32x3025, .i32⟩
  | _ => ⟨S2x32x112x112, .f32⟩

abbrev hbmTy0_2 (i : Nat) : BufTy := match i % 128 with
  | 0 => ⟨S2x32x3025, .i32⟩
  | 1 => ⟨S2x32x3025, .i32⟩
  | 2 => ⟨S32x2x3025, .i32⟩
  | 3 => ⟨S32x2x3025x1, .i32⟩
  | 4 => ⟨S32x64x256, .f32⟩
  | 5 => ⟨S32x64x2x3025, .f32⟩
  | 6 => ⟨S_, .f32⟩
  | 7 => ⟨S64x2x3025, .f32⟩
  | 8 => ⟨S2x64x3025, .f32⟩
  | 9 => ⟨S64x32x1x1x256, .f32⟩
  | 10 => ⟨S64x32x256, .f32⟩
  | 11 => ⟨S2x32x1x1x3025, .i32⟩
  | 12 => ⟨S2x32x3025, .i32⟩
  | 13 => ⟨S_, .i32⟩
  | 14 => ⟨S2x32x3025, .i32⟩
  | 15 => ⟨S2x32x3025, .i1⟩
  | 16 => ⟨S_, .i32⟩
  | 17 => ⟨S2x32x3025, .i32⟩
  | 18 => ⟨S2x32x3025, .i32⟩
  | 19 => ⟨S2x32x3025, .i32⟩
  | 20 => ⟨S32x2x3025, .i32⟩
  | 21 => ⟨S32x2x3025x1, .i32⟩
  | 22 => ⟨S32x64x256, .f32⟩
  | 23 => ⟨S32x64x2x3025, .f32⟩
  | 24 => ⟨S_, .f32⟩
  | 25 => ⟨S64x2x3025, .f32⟩
  | 26 => ⟨S2x64x3025, .f32⟩
  | 27 => ⟨S64x32x1x1x256, .f32⟩
  | 28 => ⟨S64x32x256, .f32⟩
  | 29 => ⟨S2x32x1x1x3025, .i32⟩
  | 30 => ⟨S2x32x3025, .i32⟩
  | 31 => ⟨S_, .i32⟩
  | 32 => ⟨S2x32x3025, .i32⟩
  | 33 => ⟨S2x32x3025, .i1⟩
  | 34 => ⟨S_, .i32⟩
  | 35 => ⟨S2x32x3025, .i32⟩
  | 36 => ⟨S2x32x3025, .i32⟩
  | 37 => ⟨S2x32x3025, .i32⟩
  | 38 => ⟨S32x2x3025, .i32⟩
  | 39 => ⟨S32x2x3025x1, .i32⟩
  | 40 => ⟨S32x64x256, .f32⟩
  | 41 => ⟨S32x64x2x3025, .f32⟩
  | 42 => ⟨S_, .f32⟩
  | 43 => ⟨S64x2x3025, .f32⟩
  | 44 => ⟨S2x64x3025, .f32⟩
  | 45 => ⟨S64x32x1x1x256, .f32⟩
  | 46 => ⟨S64x32x256, .f32⟩
  | 47 => ⟨S2x32x1x1x3025, .i32⟩
  | 48 => ⟨S2x32x3025, .i32⟩
  | 49 => ⟨S_, .i32⟩
  | 50 => ⟨S2x32x3025, .i32⟩
  | 51 => ⟨S2x32x3025, .i1⟩
  | 52 => ⟨S_, .i32⟩
  | 53 => ⟨S2x32x3025, .i32⟩
  | 54 => ⟨S2x32x3025, .i32⟩
  | 55 => ⟨S2x32x3025, .i32⟩
  | 56 => ⟨S32x2x3025, .i32⟩
  | 57 => ⟨S32x2x3025x1, .i32⟩
  | 58 => ⟨S32x64x256, .f32⟩
  | 59 => ⟨S32x64x2x3025, .f32⟩
  | 60 => ⟨S_, .f32⟩
  | 61 => ⟨S64x2x3025, .f32⟩
  | 62 => ⟨S2x64x3025, .f32⟩
  | 63 => ⟨S64x32x1x1x256, .f32⟩
  | 64 => ⟨S64x32x256, .f32⟩
  | 65 => ⟨S2x32x1x1x3025, .i32⟩
  | 66 => ⟨S2x32x3025, .i32⟩
  | 67 => ⟨S_, .i32⟩
  | 68 => ⟨S2x32x3025, .i32⟩
  | 69 => ⟨S2x32x3025, .i1⟩
  | 70 => ⟨S_, .i32⟩
  | 71 => ⟨S2x32x3025, .i32⟩
  | 72 => ⟨S2x32x3025, .i32⟩
  | 73 => ⟨S2x32x3025, .i32⟩
  | 74 => ⟨S32x2x3025, .i32⟩
  | 75 => ⟨S32x2x3025x1, .i32⟩
  | 76 => ⟨S32x64x256, .f32⟩
  | 77 => ⟨S32x64x2x3025, .f32⟩
  | 78 => ⟨S_, .f32⟩
  | 79 => ⟨S64x2x3025, .f32⟩
  | 80 => ⟨S2x64x3025, .f32⟩
  | 81 => ⟨S64x32x1x1x256, .f32⟩
  | 82 => ⟨S64x32x256, .f32⟩
  | 83 => ⟨S2x32x1x1x3025, .i32⟩
  | 84 => ⟨S2x32x3025, .i32⟩
  | 85 => ⟨S_, .i32⟩
  | 86 => ⟨S2x32x3025, .i32⟩
  | 87 => ⟨S2x32x3025, .i1⟩
  | 88 => ⟨S_, .i32⟩
  | 89 => ⟨S2x32x3025, .i32⟩
  | 90 => ⟨S2x32x3025, .i32⟩
  | 91 => ⟨S2x32x3025, .i32⟩
  | 92 => ⟨S32x2x3025, .i32⟩
  | 93 => ⟨S32x2x3025x1, .i32⟩
  | 94 => ⟨S32x64x256, .f32⟩
  | 95 => ⟨S32x64x2x3025, .f32⟩
  | 96 => ⟨S_, .f32⟩
  | 97 => ⟨S64x2x3025, .f32⟩
  | 98 => ⟨S2x64x3025, .f32⟩
  | 99 => ⟨S2x64x1x3025, .f32⟩
  | 100 => ⟨S2x64x1x3025, .f32⟩
  | 101 => ⟨S2x64x1x3025, .f32⟩
  | 102 => ⟨S2x64x1x3025, .f32⟩
  | 103 => ⟨S2x64x1x3025, .f32⟩
  | 104 => ⟨S2x64x1x3025, .f32⟩
  | 105 => ⟨S2x64x1x3025, .f32⟩
  | 106 => ⟨S2x64x1x3025, .f32⟩
  | 107 => ⟨S2x64x1x3025, .f32⟩
  | 108 => ⟨S2x64x1x3025, .f32⟩
  | 109 => ⟨S2x64x1x3025, .f32⟩
  | 110 => ⟨S2x64x1x3025, .f32⟩
  | 111 => ⟨S2x64x1x3025, .f32⟩
  | 112 => ⟨S2x64x1x3025, .f32⟩
  | 113 => ⟨S2x64x1x3025, .f32⟩
  | 114 => ⟨S2x64x1x3025, .f32⟩
  | 115 => ⟨S2x64x16x3025, .f32⟩
  | 116 => ⟨S2x64x4x4x3025, .f32⟩
  | 117 => ⟨S2x64x4x3025x2, .f32⟩
  | 118 => ⟨S2x64x3025x2x2, .f32⟩
  | 119 => ⟨S2x64x2x2x3025, .f32⟩
  | 120 => ⟨S2x64x2x2x55x55, .f32⟩
  | 121 => ⟨S2x64x55x2x55x2, .f32⟩
  | 122 => ⟨S2x64x55x2x110, .f32⟩
  | 123 => ⟨S1x64x1x1x1, .f32⟩
  | 124 => ⟨S2x64x55x2x110, .f32⟩
  | 125 => ⟨S2x64x55x2x110, .f32⟩
  | _ => ⟨S2x32x112x112, .f32⟩

abbrev hbmTy (i : Nat) : BufTy := match i / 128 with
  | 0 => hbmTy0_0 i
  | 1 => hbmTy0_1 i
  | 2 => hbmTy0_2 i
  | _ => ⟨S2x32x112x112, .f32⟩

abbrev bufTy : (tb : Table) → Fin (tcTables nBuf tb) → BufTy
  | .hbm, ⟨i, _⟩ => hbmTy i
  | _, _ => ⟨S2x32x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_2 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_6 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_9 : Ref sig .tc := ⟨.hbm, 89, rfl⟩
abbrev main_v65 : Ref sig .tc := ⟨.hbm, 90, rfl⟩
abbrev main_v66 : Ref sig .tc := ⟨.hbm, 91, rfl⟩
abbrev main_c_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_12 : Ref sig .tc := ⟨.hbm, 107, rfl⟩
abbrev main_v80 : Ref sig .tc := ⟨.hbm, 108, rfl⟩
abbrev main_v81 : Ref sig .tc := ⟨.hbm, 109, rfl⟩
abbrev main_c_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_14 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_15 : Ref sig .tc := ⟨.hbm, 125, rfl⟩
abbrev main_v95 : Ref sig .tc := ⟨.hbm, 126, rfl⟩
abbrev main_v96 : Ref sig .tc := ⟨.hbm, 127, rfl⟩
abbrev main_c_16 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_17 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_18 : Ref sig .tc := ⟨.hbm, 143, rfl⟩
abbrev main_v110 : Ref sig .tc := ⟨.hbm, 144, rfl⟩
abbrev main_v111 : Ref sig .tc := ⟨.hbm, 145, rfl⟩
abbrev main_c_19 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_20 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_21 : Ref sig .tc := ⟨.hbm, 161, rfl⟩
abbrev main_v125 : Ref sig .tc := ⟨.hbm, 162, rfl⟩
abbrev main_v126 : Ref sig .tc := ⟨.hbm, 163, rfl⟩
abbrev main_c_22 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_23 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_24 : Ref sig .tc := ⟨.hbm, 179, rfl⟩
abbrev main_v140 : Ref sig .tc := ⟨.hbm, 180, rfl⟩
abbrev main_v141 : Ref sig .tc := ⟨.hbm, 181, rfl⟩
abbrev main_c_25 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_26 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_c_27 : Ref sig .tc := ⟨.hbm, 197, rfl⟩
abbrev main_v155 : Ref sig .tc := ⟨.hbm, 198, rfl⟩
abbrev main_v156 : Ref sig .tc := ⟨.hbm, 199, rfl⟩
abbrev main_c_28 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_29 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_c_30 : Ref sig .tc := ⟨.hbm, 215, rfl⟩
abbrev main_v170 : Ref sig .tc := ⟨.hbm, 216, rfl⟩
abbrev main_v171 : Ref sig .tc := ⟨.hbm, 217, rfl⟩
abbrev main_c_31 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_32 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_c_33 : Ref sig .tc := ⟨.hbm, 233, rfl⟩
abbrev main_v185 : Ref sig .tc := ⟨.hbm, 234, rfl⟩
abbrev main_v186 : Ref sig .tc := ⟨.hbm, 235, rfl⟩
abbrev main_c_34 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_35 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_c_36 : Ref sig .tc := ⟨.hbm, 251, rfl⟩
abbrev main_v200 : Ref sig .tc := ⟨.hbm, 252, rfl⟩
abbrev main_v201 : Ref sig .tc := ⟨.hbm, 253, rfl⟩
abbrev main_c_37 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_cst_38 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_c_39 : Ref sig .tc := ⟨.hbm, 269, rfl⟩
abbrev main_v215 : Ref sig .tc := ⟨.hbm, 270, rfl⟩
abbrev main_v216 : Ref sig .tc := ⟨.hbm, 271, rfl⟩
abbrev main_c_40 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_cst_41 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_c_42 : Ref sig .tc := ⟨.hbm, 287, rfl⟩
abbrev main_v230 : Ref sig .tc := ⟨.hbm, 288, rfl⟩
abbrev main_v231 : Ref sig .tc := ⟨.hbm, 289, rfl⟩
abbrev main_c_43 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_44 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_c_45 : Ref sig .tc := ⟨.hbm, 305, rfl⟩
abbrev main_v245 : Ref sig .tc := ⟨.hbm, 306, rfl⟩
abbrev main_v246 : Ref sig .tc := ⟨.hbm, 307, rfl⟩
abbrev main_c_46 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_cst_47 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_c_48 : Ref sig .tc := ⟨.hbm, 323, rfl⟩
abbrev main_v260 : Ref sig .tc := ⟨.hbm, 324, rfl⟩
abbrev main_v261 : Ref sig .tc := ⟨.hbm, 325, rfl⟩
abbrev main_c_49 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_cst_50 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_c_51 : Ref sig .tc := ⟨.hbm, 341, rfl⟩
abbrev main_v275 : Ref sig .tc := ⟨.hbm, 342, rfl⟩
abbrev main_v276 : Ref sig .tc := ⟨.hbm, 343, rfl⟩
abbrev main_c_52 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_cst_53 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩

abbrev nD : Nat := 1
abbrev τ : Topo := Topo.v7x

variable {F : FTy → Type} [FloatOps F]
-- ==== Proof.Levels.lean ====
/- The quantiser.  An activation is multiplied by 255, rounded to the nearest integer (ties to even) and clipped to
   0 … 255.  Whatever the activation is, an infinity included, the outcome is one of the integers 0 … 255: its level.
   Here also: the sum of the sixteen levels of a window, what the word of such a sum, or of 0 or minus the sum, is
   after truncation to an integer and clipping, and that this word is a valid row number of a table of 256 rows. -/
module

public import Idealize.ShloMosaic.PureOps.Ideal
public import Idealize.ShloMosaic.Lib.IdealHost

@[expose] public section

noncomputable section

namespace Cert.Levels

open Idealize.ShloMosaic

/-- The quantised activation as both programs write it, over the extended reals. -/
def quant (x : EReal) : EReal :=
  min ((255 : ℝ) : EReal) (max ((0 : ℝ) : EReal) (Ideal.liftRound Ideal.roundHalfEven (x * ((255 : ℝ) : EReal))))

/-- Rounding gives an infinity or an integer, so clipping it gives one of the integers 0 … 255. -/
theorem exists_level (x : EReal) : ∃ n : ℕ, n ≤ 255 ∧ quant x = ((n : ℝ) : EReal) := by
  unfold quant
  induction x * ((255 : ℝ) : EReal) using EReal.rec with
  | bot =>
    refine ⟨0, by omega, ?_⟩
    rw [show Ideal.liftRound Ideal.roundHalfEven ⊥ = ⊥ from rfl, max_eq_left bot_le, min_eq_right (by norm_num)]
    simp
  | top =>
    refine ⟨255, le_rfl, ?_⟩
    rw [show Ideal.liftRound Ideal.roundHalfEven ⊤ = ⊤ from rfl, max_eq_right le_top, min_eq_left le_top]
    simp
  | coe r =>
    refine ⟨(min 255 (max 0 (Ideal.roundHalfEven r))).toNat, by omega, ?_⟩
    have hz : (((min 255 (max 0 (Ideal.roundHalfEven r))).toNat : ℤ)) = min 255 (max 0 (Ideal.roundHalfEven r)) := by omega
    have hr : (((min 255 (max 0 (Ideal.roundHalfEven r))).toNat : ℕ) : ℝ) = min 255 (max 0 (Ideal.roundHalfEven r : ℝ)) := by
      have := congrArg (fun z : ℤ => (z : ℝ)) hz
      push_cast at this
      exact this
    rw [hr]
    show min ((255 : ℝ) : EReal) (max ((0 : ℝ) : EReal) ((Ideal.roundHalfEven r : ℝ) : EReal)) = _
    rw [← EReal.coe_strictMono.monotone.map_max, ← EReal.coe_strictMono.monotone.map_min]

/-- The level of an activation. -/
def level (x : EReal) : ℕ := (exists_level x).choose

theorem level_le (x : EReal) : level x ≤ 255 := (exists_level x).choose_spec.1

theorem quant_eq (x : EReal) : quant x = ((level x : ℝ) : EReal) := (exists_level x).choose_spec.2

/-- The number 255 as its binary32 word. -/
theorem ofBits_255 : Ideal.ofBits .f32 0x437F0000#32 = ((255 : ℝ) : EReal) := by
  simp [Ideal.ofBits, Ideal.ieee, -EReal.coe_mul]; norm_num

/-- The number minus one as its binary32 word. -/
theorem ofBits_neg_one : Ideal.ofBits .f32 0xBF800000#32 = ((-1 : ℝ) : EReal) := by
  simp [Ideal.ofBits, Ideal.ieee, -EReal.coe_mul, -EReal.coe_neg]; norm_num

/-- The word of an integer of moderate size, truncated from its real and clipped to 0 … 255. -/
theorem clip_fptosi (z : ℤ) (hlo : -100000 ≤ z) (hhi : z ≤ 100000) :
    IntOp.minsi 255#32 (IntOp.maxsi 0#32 (Ideal.fptosi 32 ((z : ℝ) : EReal))) = BitVec.ofNat 32 (min 255 z.toNat) := by
  have h1 : Ideal.fptosi 32 ((z : ℝ) : EReal) = BitVec.ofInt 32 z := by
    unfold Ideal.fptosi
    rw [Ideal.toIntClamped_coe]
    congr 1
    rw [Int.floor_intCast, Int.ceil_intCast, ite_self]
    norm_num
    omega
  rw [h1]
  have h2 : (BitVec.ofInt 32 z).toInt = z := by
    rw [BitVec.toInt_ofInt]
    exact Int.bmod_eq_of_le (by norm_num; omega) (by norm_num; omega)
  by_cases hz : z < 0
  · have : IntOp.maxsi 0#32 (BitVec.ofInt 32 z) = 0#32 := by
      unfold IntOp.maxsi
      rw [BitVec.slt_eq_decide, h2]
      simp [hz]
    rw [this, show min 255 z.toNat = 0 by omega]
    rfl
  · have : IntOp.maxsi 0#32 (BitVec.ofInt 32 z) = BitVec.ofInt 32 z := by
      unfold IntOp.maxsi
      rw [BitVec.slt_eq_decide, h2]
      simp [hz]
    rw [this]
    unfold IntOp.minsi
    rw [BitVec.slt_eq_decide, h2]
    by_cases hb : (255 : ℤ) < z
    · rw [show min 255 z.toNat = 255 by omega, if_pos (by simpa using hb)]
    · rw [if_neg (by simpa using hb), show min 255 z.toNat = z.toNat by omega]
      obtain ⟨n, rfl⟩ := Int.eq_ofNat_of_zero_le (not_lt.mp hz)
      simp

/-- A row number is not negative, so the lookup does not wrap it. -/
theorem wrap_row (n : ℕ) (hn : n ≤ 255) :
    (if (BitVec.ofNat 32 n).slt 0#32 then BitVec.ofNat 32 n + 256#32 else BitVec.ofNat 32 n) = BitVec.ofNat 32 n := by
  rw [if_neg]
  rw [BitVec.slt_eq_decide, BitVec.toInt_eq_toNat_of_lt (by rw [BitVec.toNat_ofNat, Nat.mod_eq_of_lt (by omega)]; omega)]
  simp only [BitVec.toInt_zero, decide_eq_true_eq, not_lt]
  exact Int.natCast_nonneg _

/-- The row that a row number's word names, clamped as the lookup clamps it. -/
theorem row_toNat (n : ℕ) (hn : n ≤ 255) : min (BitVec.ofNat 32 n).toInt.toNat 255 = n := by
  rw [BitVec.toInt_eq_toNat_of_lt (by rw [BitVec.toNat_ofNat, Nat.mod_eq_of_lt (by omega)]; omega), BitVec.toNat_ofNat,
    Nat.mod_eq_of_lt (by omega)]
  simp [hn]

end Cert.Levels

end
-- ==== Proof.Model.lean ====
/- The numbers that both programs compute, over plain indices: a window's sum of levels, clipped, times the mixed weights,
   summed over the channels. -/
module

public import Idealize.ShloMosaic.Lib.Pointwise

@[expose] public section

noncomputable section

namespace Cert.Model

/-- The sum of the sixteen levels of one image and channel in the window at (t, w), which starts at row 2t, column 2w. -/
def windowSum (lv : Fin 112 → Fin 112 → ℕ) (t w : Fin 55) : ℕ :=
  ∑ a : Fin 4, ∑ e : Fin 4, lv ⟨2 * t.val + a.val, by omega⟩ ⟨2 * w.val + e.val, by omega⟩

/-- The window's sum clipped at 255: the row of the table that it names. -/
def rowNumber (lv : Fin 112 → Fin 112 → ℕ) (t w : Fin 55) : ℕ := min 255 (windowSum lv t w)

theorem rowNumber_le (lv : Fin 112 → Fin 112 → ℕ) (t w : Fin 55) : rowNumber lv t w ≤ 255 := min_le_left _ _

/-- The five weights mixed for output row `p` and column `s` of a window. -/
def mix (w : Fin 5 → EReal) (p s : Fin 2) : EReal :=
  match p, s with
  | 0, 0 => w 0 + w 1 + w 2 + w 3
  | 0, 1 => w 1 - w 2 - w 3
  | 1, 0 => w 1 + w 2 - w 3 - w 4
  | 1, 1 => w 1 - w 2 + w 3 - w 4

/-- The column of a window that a lane belongs to: even lanes the first, odd lanes the second. -/
def side (l : Fin 110) : Fin 2 := ⟨l.val % 2, Nat.mod_lt _ (by decide)⟩

/-- The window that a lane belongs to. -/
def windowOf (l : Fin 110) : Fin 55 := ⟨l.val / 2, by omega⟩

/-- One output: the mixed weights times the window's row number, summed over the channels, and the bias. -/
def output (lv : Fin 32 → Fin 112 → Fin 112 → ℕ) (w : Fin 32 → Fin 5 → EReal) (bias : EReal) (t : Fin 55) (p : Fin 2)
    (l : Fin 110) : EReal :=
  (∑ c : Fin 32, mix (w c) p (side l) * ((rowNumber (lv c) t (windowOf l) : ℝ) : EReal)) + bias

/-- The image of a sum of reals among the extended reals is the sum of the images. -/
theorem real_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

end Cert.Model

end
-- ==== Proof.Words.lean ====
/- The reference's row numbers: the patches of the quantised image, their sums, and the words that name the rows. -/
module

public import proofs.«01_k».proof.Proof.Gen.ReferenceIdeal.Run
public import proofs.«01_k».proof.Proof.Levels
public import proofs.«01_k».proof.Proof.Model
public import Idealize.ShloMosaic.Lib.StableHlo.ReadAt

@[expose] public section

set_option maxRecDepth 16384

noncomputable section

namespace Cert.Words

open Idealize.ShloMosaic Cert.ReferenceIdeal Cert.ReferenceIdeal.Gen Cert.ReferenceIdeal.Value

variable (V0 : Valuation τ sig (Elt Ideal))

/-- The quantised image is the image's levels. -/
theorem quantised_apply (b : Fin 2) (ch : Fin 32) (r l : Fin 112) :
    (res_main_v3 V0 (ix4 b ch r l) : EReal)
      = ((Cert.Levels.level (V0 (Proc.devRef .tc main_arg0) (ix4 b ch r l)) : ℝ) : EReal) := by
  unfold res_main_v3
  clean_types
  pointwise
  rw [← Cert.Levels.quant_eq, Cert.Levels.ofBits_255]
  unfold Cert.Levels.quant
  rw [show (FloatOps.sitofp FTy.f32 255#32 : Ideal .f32) = ((255 : ℝ) : EReal) by
      show (((255#32 : BitVec 32).toInt : ℝ) : EReal) = _; rw [show (255#32 : BitVec 32).toInt = 255 by decide]; norm_num,
    show (FloatOps.sitofp FTy.f32 0#32 : Ideal .f32) = ((0 : ℝ) : EReal) by
      show (((0#32 : BitVec 32).toInt : ℝ) : EReal) = _; rw [show (0#32 : BitVec 32).toInt = 0 by decide]; norm_num]

/-- Each patch lies inside the image. -/
theorem patch_slices : ∀ q : Fin 16, S2x32x112x112.SlicesBy (![0, 0, q.val / 4, q.val % 4] : Fin 4 → ℕ) ![1, 1, 2, 2] S2x32x55x55 := by
  decide

/-- One of the sixteen patches. -/
def patch (x : FVec Ideal S2x32x112x112 .f32) (q : Fin 16) : FVec Ideal S2x32x1x55x55 .f32 :=
  broadcastInDim S2x32x1x55x55 ![0, 1, 3, 4] bcast_S2x32x55x55_S2x32x1x55x55_0_1_3_4
    (Host.slice S2x32x55x55 ![0, 0, q.val / 4, q.val % 4] ![1, 1, 2, 2] x (patch_slices q))

/-- A patch at a window: the pixel of the window at the patch's position. -/
theorem patch_apply (x : FVec Ideal S2x32x112x112 .f32) (q : Fin 16) (b : Fin 2) (ch : Fin 32) (t w : Fin 55) :
    patch x q (ix5 b ch 0 t w) = x (ix4 b ch ⟨2 * t.val + q.val / 4, by omega⟩ ⟨2 * w.val + q.val % 4, by omega⟩) := by
  unfold patch
  pointwise
  exact congrArg x (congrArg₂ (fun r l => ix4 b ch r l) (Fin.ext (Nat.add_comm _ _)) (Fin.ext (Nat.add_comm _ _)))

/-- The stacked patches, read at one of them. -/
theorem patches_apply (b : Fin 2) (ch : Fin 32) (q : Fin 16) (t w : Fin 55) :
    res_main_v36 V0 (ix5 b ch q t w)
      = res_main_v3 V0 (ix4 b ch ⟨2 * t.val + q.val / 4, by omega⟩ ⟨2 * w.val + q.val % 4, by omega⟩) := by
  have h : res_main_v36 V0 = concatenate S2x32x16x55x55 2 (List.ofFn fun n => ⟨S2x32x1x55x55, patch (res_main_v3 V0) n⟩)
      Cert.ReferenceIdeal.Gen.concatenates_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x1x55x55_S2x32x16x55x55_d2 := rfl
  rw [h]
  refine (concatenate_ofFn_unit_apply (t := S2x32x16x55x55) 2 (patch (res_main_v3 V0)) _ rfl rfl (ix5 b ch q t w) q rfl (ix5 b ch 0 t w) ?_).trans (patch_apply _ q b ch t w)
  intro a ha
  match a with
  | ⟨0, _⟩ => rfl
  | ⟨1, _⟩ => rfl
  | ⟨2, _⟩ => exact absurd rfl ha
  | ⟨3, _⟩ => rfl
  | ⟨4, _⟩ => rfl

/-- A sum over the sixteen positions of a window, row by row. -/
theorem sum_positions (f : Fin 4 → Fin 4 → ℕ) :
    ∑ q : Fin 16, f ⟨q.val / 4, by omega⟩ ⟨q.val % 4, by omega⟩ = ∑ a : Fin 4, ∑ e : Fin 4, f a e := by
  rw [← Fintype.sum_prod_type' f]
  exact Fintype.sum_equiv (finProdFinEquiv (m := 4) (n := 4)).symm _ _ fun q => rfl

/-- The levels of one image and channel of the first argument. -/
def levels (b : Fin 2) (ch : Fin 32) (r l : Fin 112) : ℕ := Cert.Levels.level (V0 (Proc.devRef .tc main_arg0) (ix4 b ch r l))

/-- The sum of the sixteen patches at one window is the sum of the window's levels. -/
theorem sum_apply (b : Fin 2) (ch : Fin 32) (t w : Fin 55) :
    Finset.sum (M := EReal) Finset.univ (fun q : Fin 16 => res_main_v36 V0 (ix5 b ch q t w))
      = ((Cert.Model.windowSum (levels V0 b ch) t w : ℝ) : EReal) := by
  have e : ∀ q : Fin 16, (res_main_v36 V0 (ix5 b ch q t w) : EReal)
      = (((levels V0 b ch ⟨2 * t.val + q.val / 4, by omega⟩ ⟨2 * w.val + q.val % 4, by omega⟩ : ℕ) : ℝ) : EReal) :=
    fun q => (patches_apply V0 b ch q _ _).trans (quantised_apply V0 b ch _ _)
  refine (Finset.sum_congr (M := EReal) rfl fun q _ => e q).trans ?_
  unfold Cert.Model.windowSum
  rw [← sum_positions fun a e => levels V0 b ch ⟨2 * t.val + a.val, by omega⟩ ⟨2 * w.val + e.val, by omega⟩]
  push_cast
  rfl

/-- A window's sum is moderate. -/
theorem windowSum_le (b : Fin 2) (ch : Fin 32) (t w : Fin 55) : Cert.Model.windowSum (levels V0 b ch) t w ≤ 4080 := by
  unfold Cert.Model.windowSum
  refine (Finset.sum_le_card_nsmul _ _ 1020 fun a _ => Finset.sum_le_card_nsmul _ _ 255 fun e _ => Cert.Levels.level_le _).trans ?_
  simp

/-- The transform's matrix of ones, zeros and minus ones. -/
def sign (i j : Fin 4) : ℤ := (![![1, 0, -1, 0], ![0, 1, 1, 0], ![0, -1, 1, 0], ![0, 1, 0, -1]] : Fin 4 → Fin 4 → ℤ) i j

/-- The word of one, zero or minus one. -/
def signBits (z : ℤ) : BitVec 32 := if z = 1 then 0x3F800000#32 else if z = 0 then 0#32 else 0xBF800000#32

/-- The reference's matrix holds those words. -/
theorem sign_bits : ∀ i j : Fin 4, lit0 (S4x4.rowMajor (ix2 i j)) = signBits (sign i j) := by decide

/-- Each entry of the matrix is one, zero or minus one. -/
theorem sign_cases : ∀ i j : Fin 4, sign i j = 1 ∨ sign i j = 0 ∨ sign i j = -1 := by decide

/-- What the three words stand for. -/
theorem signBits_eq (z : ℤ) (h : z = 1 ∨ z = 0 ∨ z = -1) : Ideal.ofBits .f32 (signBits z) = ((z : ℝ) : EReal) := by
  rcases h with rfl | rfl | rfl
  · rw [show signBits 1 = 0x3F800000#32 from rfl]
    simp [Ideal.ofBits, Ideal.ieee, -EReal.coe_mul]; norm_num
  · rw [show signBits 0 = 0#32 from rfl]
    simp [Ideal.ofBits, Ideal.ieee, -EReal.coe_mul]
  · rw [show signBits (-1) = 0xBF800000#32 from rfl, Cert.Levels.ofBits_neg_one]
    norm_num

/-- The row that the reference names at one position: the clipped sum where the matrix has a one, row 0 elsewhere. -/
def row (b : Fin 2) (ch : Fin 32) (i j : Fin 4) (l : Fin 3025) : Fin 256 :=
  if sign i j = 1 then ⟨Cert.Model.rowNumber (levels V0 b ch) ⟨l.val / 55, by omega⟩ ⟨l.val % 55, by omega⟩,
    Nat.lt_succ_of_le (Cert.Model.rowNumber_le _ _ _)⟩ else 0

/-- The row's number. -/
theorem row_val (b : Fin 2) (ch : Fin 32) (i j : Fin 4) (l : Fin 3025) : (row V0 b ch i j l).val
    = if sign i j = 1 then Cert.Model.rowNumber (levels V0 b ch) ⟨l.val / 55, by omega⟩ ⟨l.val % 55, by omega⟩ else 0 := by
  unfold row
  split <;> rfl

/-- The word at one position names that row. -/
theorem word_apply (b : Fin 2) (ch : Fin 32) (i j : Fin 4) (l : Fin 3025) :
    res_main_v45 V0 (ix5 b ch i j l) = BitVec.ofNat 32 (row V0 b ch i j l).val := by
  unfold res_main_v45
  clean_types
  pointwise
  have hs := windowSum_le V0 b ch ⟨l.val / 55, by omega⟩ ⟨l.val % 55, by omega⟩
  have e : (Ideal.ofBits .f32 (lit0 (S4x4.rowMajor (ix2 i j))) * Finset.sum (M := EReal) Finset.univ (fun q : Fin 16 =>
        res_main_v36 V0 (ix5 b ch q ⟨l.val / 55, by omega⟩ ⟨l.val % 55, by omega⟩)) : EReal)
      = (((sign i j * Cert.Model.windowSum (levels V0 b ch) ⟨l.val / 55, by omega⟩ ⟨l.val % 55, by omega⟩ : ℤ) : ℝ) : EReal) := by
    rw [sum_apply, sign_bits, signBits_eq _ (sign_cases i j), ← EReal.coe_mul]; push_cast; rfl
  refine (congrArg (fun z : EReal => IntOp.minsi 255#32 (IntOp.maxsi 0#32 (Ideal.fptosi 32 z))) e).trans ?_
  rw [row_val]
  unfold Cert.Model.rowNumber
  generalize Cert.Model.windowSum (levels V0 b ch) ⟨l.val / 55, by omega⟩ ⟨l.val % 55, by omega⟩ = n at hs ⊢
  refine (Cert.Levels.clip_fptosi _ ?_ ?_).trans ?_
  · rcases sign_cases i j with h | h | h <;> rw [h] <;> omega
  · rcases sign_cases i j with h | h | h <;> rw [h] <;> omega
  · rcases sign_cases i j with h | h | h <;> rw [h]
    · simp
    · simp
    · simp

end Cert.Words

end
-- ==== Proof.Transform.lean ====
/- The reference's output transform: of the sixteen sums of one window to its four outputs, laid out as the result. -/
module

public import proofs.«01_k».proof.Proof.Gen.ReferenceIdeal.Run
public import proofs.«01_k».proof.Proof.Words
public import Idealize.ShloMosaic.Lib.StableHlo.ReadAt

@[expose] public section

set_option maxRecDepth 16384

noncomputable section

namespace Cert.Transform

open Idealize.ShloMosaic Cert.ReferenceIdeal Cert.ReferenceIdeal.Gen

/-- The transform's matrix as the reference holds it. -/
def matrix : FVec Ideal S4x2 .f32 := fun i => FloatOps.ofBits .f32 (lit1 (S4x2.rowMajor i))

/-- The transform's matrix as integers. -/
def entry (p : Fin 4) (i : Fin 2) : ℤ := (![![1, 0], ![1, 1], ![1, -1], ![0, -1]] : Fin 4 → Fin 2 → ℤ) p i

/-- The reference's matrix holds the words of those integers. -/
theorem entry_bits : ∀ (p : Fin 4) (i : Fin 2), lit1 (S4x2.rowMajor (ix2 p i)) = Cert.Words.signBits (entry p i) := by decide

/-- Each entry of the matrix is one, zero or minus one. -/
theorem entry_cases : ∀ (p : Fin 4) (i : Fin 2), entry p i = 1 ∨ entry p i = 0 ∨ entry p i = -1 := by decide

/-- The reference's transform of the stacked sums, with the bias. -/
def transform (z : FVec Ideal S2x64x16x3025 .f32) (bias : FVec Ideal S64 .f32) : FVec Ideal S2x64x55x2x110 .f32 :=
  addf (shapeCast _ (transpose S2x64x55x2x55x2 [0, 1, 4, 2, 5, 3] (shapeCast _ (transpose S2x64x2x2x3025 [0, 1, 3, 4, 2]
    (Host.dotGeneral dot_S2x64x4x3025x2_S4x2_S2x64x3025x2x2_2_0_0134_1_n_n none
      (Host.dotGeneral dot_S2x64x4x4x3025_S4x2_S2x64x4x3025x2_2_0_0134_1_n_n none
        (shapeCast _ z shapeCasts_S2x64x16x3025_S2x64x4x4x3025) matrix) matrix)
    transposes_S2x64x3025x2x2_S2x64x2x2x3025_0_1_3_4_2) shapeCasts_S2x64x2x2x3025_S2x64x2x2x55x55)
    transposes_S2x64x2x2x55x55_S2x64x55x2x55x2_0_1_4_2_5_3) shapeCasts_S2x64x55x2x55x2_S2x64x55x2x110)
    (broadcastInDim S2x64x55x2x110 ![0, 1, 2, 3, 4] bcast_S1x64x1x1x1_S2x64x55x2x110_0_1_2_3_4
      (shapeCast _ bias shapeCasts_S64_S1x64x1x1x1))

/-- An entry of the matrix as a real. -/
theorem matrix_apply (p : Fin 4) (i : Fin 2) : (matrix (ix2 p i) : EReal) = ((entry p i : ℝ) : EReal) :=
  (congrArg (Ideal.ofBits .f32) (entry_bits p i)).trans (Cert.Words.signBits_eq _ (entry_cases p i))

/-- One output of the transform over real sums `r`, without the bias. -/
def mixed (r : Fin 4 → Fin 4 → ℝ) (p s : Fin 2) : ℝ :=
  ∑ e : Fin 4, (∑ a : Fin 4, r a e * (entry a p : ℝ)) * (entry e s : ℝ)

/-- The transform at an index, where the window's sixteen sums are real. -/
theorem transform_apply (z : FVec Ideal S2x64x16x3025 .f32) (bias : FVec Ideal S64 .f32) (b : Fin 2) (o : Fin 64) (t : Fin 55)
    (p : Fin 2) (l : Fin 110) (r : Fin 4 → Fin 4 → ℝ)
    (hr : ∀ a e : Fin 4, (z (ix4 b o ⟨a.val * 4 + e.val, by omega⟩ ⟨t.val * 55 + l.val / 2, by omega⟩) : EReal) = ((r a e : ℝ) : EReal)) :
    (transform z bias (ix5 b o t p l) : EReal) = ((mixed r p (Cert.Model.side l) : ℝ) : EReal) + (bias (ix1 o) : EReal) := by
  unfold transform
  pointwise
  refine congrArg (fun y : EReal => y + bias (ix1 o)) ?_
  have e1 : ∀ e : Fin 4, (∑ a : Fin 4, ((z (ix4 b o ⟨a.val * 4 + e.val, by omega⟩ ⟨t.val * 55 + l.val / 2, by omega⟩) : EReal)
      * (matrix (ix2 a p) : EReal))) * (matrix (ix2 e (Cert.Model.side l)) : EReal)
      = (((∑ a : Fin 4, r a e * (entry a p : ℝ)) * (entry e (Cert.Model.side l) : ℝ) : ℝ) : EReal) := by
    intro e
    rw [EReal.coe_mul, matrix_apply]
    refine congrArg (fun y : EReal => y * ((entry e (Cert.Model.side l) : ℝ) : EReal)) ?_
    refine Eq.trans ?_ (Cert.Model.real_sum _ _).symm
    exact Finset.sum_congr (M := EReal) rfl fun a _ => by rw [hr, matrix_apply, EReal.coe_mul]
  refine (Finset.sum_congr (M := EReal) rfl fun e _ => e1 e).trans ?_
  exact (Cert.Model.real_sum _ _).symm

end Cert.Transform

end
-- ==== Proof.Equation.lean ====
/- The two sides meet: the transform of the sixteen sums of looked-up entries is the mixed weights times the row numbers,
   summed over the channels. -/
module

public import proofs.«01_k».proof.Proof.Transform

@[expose] public section

noncomputable section

namespace Cert.Equation

open Cert.Words Cert.Transform

/-- The five weights mixed, over the reals. -/
def mix (w : Fin 4 → Fin 4 → ℝ) (p s : Fin 2) : ℝ :=
  match p, s with
  | 0, 0 => w 0 0 + w 1 1 + w 1 2 + w 2 2
  | 0, 1 => w 1 1 - w 1 2 - w 2 2
  | 1, 0 => w 1 1 + w 1 2 - w 2 2 - w 3 1
  | 1, 1 => w 1 1 - w 1 2 + w 2 2 - w 3 1

/-- The sum over the channels at one position: weights times row numbers where the matrix has a one, else zero. -/
def channelSum (w : Fin 32 → Fin 4 → Fin 4 → ℝ) (n : Fin 32 → ℝ) (a e : Fin 4) : ℝ :=
  ∑ c : Fin 32, w c a e * (if sign a e = 1 then n c else 0)

/-- The transform of the channel sums is the sum over the channels of the mixed weights times the row number. -/
theorem mixed_channelSum (w : Fin 32 → Fin 4 → Fin 4 → ℝ) (n : Fin 32 → ℝ) (p s : Fin 2) :
    mixed (channelSum w n) p s = ∑ c : Fin 32, mix (w c) p s * n c := by
  have pull : mixed (channelSum w n) p s
      = ∑ c : Fin 32, mixed (fun a e => w c a e * (if sign a e = 1 then n c else 0)) p s := by
    unfold mixed channelSum
    rw [Finset.sum_comm]
    refine Finset.sum_congr rfl fun e _ => ?_
    rw [← Finset.sum_mul, Finset.sum_comm]
    refine congrArg (fun y => y * (entry e s : ℝ)) (Finset.sum_congr rfl fun a _ => ?_)
    rw [Finset.sum_mul]
  rw [pull]
  refine Finset.sum_congr rfl fun c _ => ?_
  match p, s with
  | 0, 0 => simp [mixed, mix, Fin.sum_univ_four, sign, entry]; ring
  | 0, 1 => simp [mixed, mix, Fin.sum_univ_four, sign, entry]; ring
  | 1, 0 => simp [mixed, mix, Fin.sum_univ_four, sign, entry]; ring
  | 1, 1 => simp [mixed, mix, Fin.sum_univ_four, sign, entry]; ring

end Cert.Equation

end
-- ==== Proof.Lookup.lean ====
/- One of the reference's sixteen table lookups.  The table of one position of the 4×4 transform is read, per input
   channel, at the row that the channel's word names, and the readings are summed over the channels.  When every word is
   one of the row numbers 0 … 255 (`Cert.Levels`), the lookup neither wraps nor clamps, and the sum is over the entries
   at those very rows. -/
module

public import proofs.«01_k».proof.Proof.Gen.ReferenceIdeal
public import proofs.«01_k».proof.Proof.Levels
public import Idealize.ShloMosaic.Lib.Pointwise

@[expose] public section

set_option maxRecDepth 16384

noncomputable section

namespace Cert.Lookup

open Idealize.ShloMosaic Cert.ReferenceIdeal Cert.ReferenceIdeal.Gen

/-- The axes of the reference's gather: channel is the batch, the row is looked up, the output axis is kept whole. -/
abbrev gdims := gather_S32x64x256_S32x2x3025x1_S32x64x2x3025_1_2_0_0_2_3_1641

/-- The gather at (channel, output, image, window): the table of that channel and output at the row the word names. -/
theorem gather_apply (x : FVec Ideal S32x64x256 .f32) (ind : IVec S32x2x3025x1 32) (c : Fin 32) (o : Fin 64) (b : Fin 2)
    (l : Fin 3025) (n : Fin 256) (hn : min (ind (ix4 c b l 0)).toInt.toNat 255 = n.val) :
    Host.gather gdims x ind (ix4 c o b l) = x (ix3 c o n) := by
  unfold Host.gather
  congr 1
  funext a
  refine Fin.ext ?_
  show GatherDims.start gdims (ix4 c o b l) ind a + GatherDims.batchCoord gdims (ix4 c o b l) a
      + GatherDims.offCoord gdims (ix4 c o b l) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching gdims _ _ _ (List.mem_singleton.mpr rfl),
      GatherDims.offCoord_eq_zero gdims _ _ (fun h => ((GatherDims.mem_sKept gdims _).mp h).2 (List.mem_singleton.mpr rfl))]
    simp only [Nat.zero_add, Nat.add_zero]
    unfold GatherDims.batchCoord
    rw [dif_pos (show (0 : Fin 3) ∈ GatherDims.operandBatchingDims gdims from List.mem_singleton.mpr rfl)]
    rfl
  · rw [GatherDims.batchCoord_eq_zero gdims _ _ (by decide)]
    unfold GatherDims.start GatherDims.offCoord
    rw [dif_neg (by decide), dif_pos (by decide)]
    simp only [Nat.zero_add, Nat.add_zero]
    rfl
  · rw [GatherDims.batchCoord_eq_zero gdims _ _ (by decide),
      GatherDims.offCoord_eq_zero gdims _ _ (fun h => ((GatherDims.mem_sKept gdims _).mp h).1 (List.mem_singleton.mpr rfl))]
    simp only [Nat.add_zero]
    unfold GatherDims.start
    rw [dif_pos (show (2 : Fin 3) ∈ GatherDims.startIndexMap gdims from List.mem_singleton.mpr rfl)]
    have hsi : GatherDims.siIdx gdims (ix4 c o b l) ⟨List.idxOf (2 : Fin 3) (GatherDims.startIndexMap gdims),
        List.idxOf_lt_length_iff.2 (List.mem_singleton.mpr rfl)⟩ = ix4 c b l 0 := by
      funext e; refine Fin.ext ?_
      match e with
      | ⟨0, _⟩ => rfl
      | ⟨1, _⟩ => rfl
      | ⟨2, _⟩ => rfl
      | ⟨3, _⟩ => rfl
    erw [hsi]
    exact hn

/-- One lookup as the reference writes it: `val` is the position's table [output, channel, row], `ind` the rows. -/
def lookup (val : FVec Ideal S64x32x256 .f32) (ind : IVec S2x32x3025 32) : FVec Ideal S2x64x3025 .f32 :=
  transpose S2x64x3025 [1, 0, 2] (Host.reduceAdd (Host.gather gdims (transpose S32x64x256 [1, 0, 2] val transposes_S64x32x256_S32x64x256_1_0_2)
    (broadcastInDim S32x2x3025x1 ![0, 1, 2] bcast_S32x2x3025_S32x2x3025x1_0_1_2 (transpose S32x2x3025 [1, 0, 2]
      (select (cmpi .slt ind (broadcastInDim S2x32x3025 ![] bcast_S_S2x32x3025 (constantI S_ 32 0#32)))
        (addi ind (broadcastInDim S2x32x3025 ![] bcast_S_S2x32x3025 (constantI S_ 32 256#32))) ind) transposes_S2x32x3025_S32x2x3025_1_0_2)))
    (constant S_ .f32 0x00000000#32) reducesTo_S32x64x2x3025_S64x2x3025_d0 h_S_) transposes_S64x2x3025_S2x64x3025_1_0_2

/-- The lookup at (image, output, window): the sum over the channels of the entries at the named rows. -/
theorem lookup_apply (val : FVec Ideal S64x32x256 .f32) (ind : IVec S2x32x3025 32) (b : Fin 2) (o : Fin 64) (l : Fin 3025)
    (n : Fin 32 → Fin 256) (hn : ∀ c, ind (ix3 b c l) = BitVec.ofNat 32 (n c).val) :
    lookup val ind (ix3 b o l) = ∑ c : Fin 32, (val (ix3 o c (n c)) : EReal) := by
  unfold lookup
  pointwise
  refine Finset.sum_congr rfl fun c _ => ?_
  rw [gather_apply _ _ c o b l (n c)]
  · pointwise
  · pointwise
    rw [hn c]
    have hc : (n c).val ≤ 255 := by have := (n c).isLt; omega
    have hw : Scalar.select (IntOp.cmpi .slt (BitVec.ofNat 32 (n c).val) 0#32)
        (IntOp.addi (BitVec.ofNat 32 (n c).val) 256#32) (BitVec.ofNat 32 (n c).val) = BitVec.ofNat 32 (n c).val := by
      have := Cert.Levels.wrap_row (n c).val hc
      unfold Scalar.select IntOp.cmpi IntOp.addi
      cases h : (BitVec.ofNat 32 (n c).val).slt 0#32 <;> simp_all
    rw [hw, Cert.Levels.row_toNat _ hc]

end Cert.Lookup

end
-- ==== Proof.Lookups.lean ====
/- The sixteen lookups stacked: at one position, the sum over the channels of the table's entries at the named rows. -/
module

public import proofs.«01_k».proof.Proof.Words
public import proofs.«01_k».proof.Proof.Lookup

@[expose] public section

set_option maxRecDepth 16384

noncomputable section

namespace Cert.Lookups

open Idealize.ShloMosaic Cert.ReferenceIdeal Cert.ReferenceIdeal.Gen Cert.ReferenceIdeal.Value

variable (V0 : Valuation τ sig (Elt Ideal))

/-- The table of each position lies inside the whole table. -/
theorem table_slices : ∀ q : Fin 16, S64x32x4x4x256.Slices ![0, 0, q.val / 4, q.val % 4, 0] S64x32x1x1x256 := by decide

/-- The words of each position lie inside the words of all positions. -/
theorem word_slices : ∀ q : Fin 16, S2x32x4x4x3025.Slices ![0, 0, q.val / 4, q.val % 4, 0] S2x32x1x1x3025 := by decide

/-- The table of one position. -/
def tableAt (x : FVec Ideal S64x32x4x4x256 .f32) (q : Fin 16) : FVec Ideal S64x32x256 .f32 :=
  shapeCast _ (extractStridedSlice S64x32x1x1x256 ![0, 0, q.val / 4, q.val % 4, 0] x (table_slices q)) shapeCasts_S64x32x1x1x256_S64x32x256

/-- The words of one position. -/
def wordsAt (x : IVec S2x32x4x4x3025 32) (q : Fin 16) : IVec S2x32x3025 32 :=
  shapeCast _ (extractStridedSlice S2x32x1x1x3025 ![0, 0, q.val / 4, q.val % 4, 0] x (word_slices q)) shapeCasts_S2x32x1x1x3025_S2x32x3025

/-- The table of one position, read at an index. -/
theorem tableAt_apply (x : FVec Ideal S64x32x4x4x256 .f32) (q : Fin 16) (o : Fin 64) (ch : Fin 32) (k : Fin 256) :
    tableAt x q (ix3 o ch k) = x (ix5 o ch ⟨q.val / 4, by omega⟩ ⟨q.val % 4, by omega⟩ k) := by
  unfold tableAt
  pointwise

/-- The words of one position, read at an index. -/
theorem wordsAt_apply (x : IVec S2x32x4x4x3025 32) (q : Fin 16) (b : Fin 2) (ch : Fin 32) (l : Fin 3025) :
    wordsAt x q (ix3 b ch l) = x (ix5 b ch ⟨q.val / 4, by omega⟩ ⟨q.val % 4, by omega⟩ l) := by
  unfold wordsAt
  pointwise

/-- One lookup with an axis of extent one for the stack. -/
def piece (q : Fin 16) : FVec Ideal S2x64x1x3025 .f32 :=
  broadcastInDim S2x64x1x3025 ![0, 1, 3] bcast_S2x64x3025_S2x64x1x3025_0_1_3
    (Cert.Lookup.lookup (tableAt (V0 (Proc.devRef .tc main_arg1)) q) (wordsAt (res_main_v45 V0) q))

/-- One lookup at an index: the sum over the channels of the entries at the named rows. -/
theorem piece_apply (q : Fin 16) (b : Fin 2) (o : Fin 64) (l : Fin 3025) :
    (piece V0 q (ix4 b o 0 l) : EReal) = ∑ ch : Fin 32, (show EReal from V0 (Proc.devRef .tc main_arg1)
      (ix5 o ch ⟨q.val / 4, by omega⟩ ⟨q.val % 4, by omega⟩
        (Cert.Words.row V0 b ch ⟨q.val / 4, by omega⟩ ⟨q.val % 4, by omega⟩ l))) := by
  have e : piece V0 q (ix4 b o 0 l)
      = Cert.Lookup.lookup (tableAt (V0 (Proc.devRef .tc main_arg1)) q) (wordsAt (res_main_v45 V0) q) (ix3 b o l) := by
    unfold piece
    pointwise
  refine e.trans ((Cert.Lookup.lookup_apply _ _ b o l (fun ch => Cert.Words.row V0 b ch ⟨q.val / 4, by omega⟩ ⟨q.val % 4, by omega⟩ l)
    fun ch => (wordsAt_apply _ q b ch l).trans (Cert.Words.word_apply V0 b ch _ _ l)).trans ?_)
  exact Finset.sum_congr rfl fun ch _ => tableAt_apply _ q o ch _

/-- The stacked lookups, read at one of them. -/
theorem stacked_apply (b : Fin 2) (o : Fin 64) (q : Fin 16) (l : Fin 3025) :
    res_main_v302 V0 (ix4 b o q l) = piece V0 q (ix4 b o 0 l) := by
  have h : res_main_v302 V0 = concatenate S2x64x16x3025 2 (List.ofFn fun n => ⟨S2x64x1x3025, piece V0 n⟩)
      Cert.ReferenceIdeal.Gen.concatenates_S2x64x1x3025_S2x64x1x3025_S2x64x1x3025_S2x64x1x3025_S2x64x1x3025_S2x64x1x3025_S2x64x1x3025_S2x64x1x3025_S2x64x1x3025_S2x64x1x3025_S2x64x1x3025_S2x64x1x3025_S2x64x1x3025_S2x64x1x3025_S2x64x1x3025_S2x64x1x3025_S2x64x16x3025_d2 := rfl
  rw [h]
  refine concatenate_ofFn_unit_apply (t := S2x64x16x3025) 2 (piece V0) _ rfl rfl (ix4 b o q l) q rfl (ix4 b o 0 l) ?_
  intro a ha
  match a with
  | ⟨0, _⟩ => rfl
  | ⟨1, _⟩ => rfl
  | ⟨2, _⟩ => exact absurd rfl ha
  | ⟨3, _⟩ => rfl

end Cert.Lookups

end
-- ==== Proof.Block.lean ====
/- What the kernel's one body stores, read at an index.

   Everything the body keeps is a function of a row of the image (`pairSum`), of the weights (`weights`) and of the bias.
   The body treats eleven rows of windows of two images; here each step is stated once, for any row and image, and the
   44 stored pieces are its instances. -/
module

public import proofs.«01_k».proof.Proof.Gen.KernelIdeal.Value
public import proofs.«01_k».proof.Proof.Levels
public import Idealize.ShloMosaic.Lib.Pointwise
public import Idealize.ShloMosaic.Lib.Tactic

@[expose] public section

set_option maxRecDepth 16384

noncomputable section

namespace Cert.Block

open Idealize.ShloMosaic Idealize.ShloMosaic.Tactic Cert.KernelIdeal Cert.KernelIdeal.Gen

/-- The windows' sums of the row of windows that starts at the pair of rows `r` and ends at the pair `s`, clipped at 255,
    the lanes beyond the row filled with zeros. -/
def windowRow (r s : FVec Ideal S1x32x1x2x112 .f32) : FVec Ideal S32x128 .f32 :=
  k0_pay24 k0_pay6 (k0_pay7 r) (k0_pay7 s)

/-- The product of the mixed weights with the eleven rows of windows. -/
def product (m4 : FVec Ideal S32x256 .f32) (u : Fin 11 → FVec Ideal S32x128 .f32) : FVec Ideal S256x1408 .f32 :=
  matmul dot_S32x256_S32x1408_S256x1408_0_0_1_1_n_n none m4
    (concatenate S32x1408 1 [⟨S32x128, u 0⟩, ⟨S32x128, u 1⟩, ⟨S32x128, u 2⟩, ⟨S32x128, u 3⟩, ⟨S32x128, u 4⟩, ⟨S32x128, u 5⟩,
      ⟨S32x128, u 6⟩, ⟨S32x128, u 7⟩, ⟨S32x128, u 8⟩, ⟨S32x128, u 9⟩, ⟨S32x128, u 10⟩]
      concatenates_S32x128_S32x128_S32x128_S32x128_S32x128_S32x128_S32x128_S32x128_S32x128_S32x128_S32x128_S32x1408_d1)
    (constant S256x1408 .f32 0x00000000#32)

theorem slices_row (j : Fin 11) : S256x1408.Slices ![0, j.val * 128] S256x128 := by revert j; decide
theorem slices_even (p : Fin 2) : S256x128.Slices ![p.val * 128, 0] S64x128 := by revert p; decide
theorem slices_odd (p : Fin 2) : S256x128.Slices ![p.val * 128 + 64, 0] S64x128 := by revert p; decide

/-- The part of the product that belongs to window row `j`. -/
def rowOf (z : FVec Ideal S256x1408 .f32) (j : Fin 11) : FVec Ideal S256x128 .f32 :=
  extractStridedSlice S256x128 ![0, j.val * 128] z (slices_row j)

/-- The odd outputs' quarter of a row's part, for output row `p` of the window. -/
def oddOf (zj : FVec Ideal S256x128 .f32) (p : Fin 2) : FVec Ideal S64x128 .f32 :=
  extractStridedSlice S64x128 ![p.val * 128 + 64, 0] zj (slices_odd p)

/-- One stored piece: output row `p` of window row `j`. -/
def stored (bias : FVec Ideal S64x1 .f32) (even : IVec S64x128 1) (z : FVec Ideal S256x1408 .f32) (j : Fin 11) (p : Fin 2) :
    FVec Ideal S1x64x1x1x110 .f32 :=
  shapeCast S1x64x1x1x110 (extractStridedSlice S64x110 ![0, 0]
    (addf (select even (extractStridedSlice S64x128 ![p.val * 128, 0] (rowOf z j) (slices_even p))
        (concatenate S64x128 1 [⟨S64x1, extractStridedSlice S64x1 ![0, 127] (oddOf (rowOf z j) p) slices_S64x128_o0_127_S64x1⟩,
          ⟨S64x127, extractStridedSlice S64x127 ![0, 0] (oddOf (rowOf z j) p) slices_S64x128_o0_0_S64x127⟩]
          concatenates_S64x1_S64x127_S64x128_d1))
      (broadcastTo S64x128 bias broadcasts_S64x1_S64x128)) slices_S64x128_o0_0_S64x110) shapeCasts_S64x110_S1x64x1x1x110

/-- The mask of the even lanes, as the body makes it. -/
def evenMask : IVec S64x128 1 := k0_pay5 (iota .tc S64x128 32 [1] iota_S64x128_d1_w32) 2#32

/-- The mask at a lane. -/
theorem evenMask_apply (o : Fin 64) (l : Fin 128) : evenMask (ix2 o l) = if l.val % 2 = 0 then 1#1 else 0#1 := by
  unfold evenMask k0_pay5
  pointwise
  revert l
  decide

/-- A stored piece at an output channel and lane. -/
theorem stored_apply (bias : FVec Ideal S64x1 .f32) (z : FVec Ideal S256x1408 .f32) (j : Fin 11) (p : Fin 2) (o : Fin 64)
    (l : Fin 110) :
    stored bias evenMask z j p (ix5 0 o 0 0 l)
      = (z (ix2 ⟨p.val * 128 + (l.val % 2) * 64 + o.val, by omega⟩ ⟨j.val * 128 + (l.val - l.val % 2), by omega⟩) : EReal)
        + bias (ix2 o 0) := by
  unfold stored rowOf oddOf
  pointwise
  rw [evenMask_apply]
  congr 1
  by_cases h : l.val % 2 = 0
  · simp only [h, if_true, Scalar.select]
    congr 2 <;> exact Fin.ext (by simp <;> omega)
  · have h1 : l.val % 2 = 1 := by omega
    simp only [h1, Scalar.select]
    rw [dif_neg (by omega)]
    simp

/-- A row of windows read at two lanes of one number. -/
theorem cell_congr (v : FVec Ideal S32x128 .f32) (c : Fin 32) {k k' : Fin 128} (h : k.val = k'.val) :
    v (ix2 c k) = v (ix2 c k') := by rw [Fin.ext h]

/-- The product at a weight column and a lane: the sum over the channels. -/
theorem product_apply (m4 : FVec Ideal S32x256 .f32) (u : Fin 11 → FVec Ideal S32x128 .f32) (r : Fin 256) (j : Fin 11)
    (l : Fin 128) :
    product m4 u (ix2 r ⟨j.val * 128 + l.val, by omega⟩) = ∑ c : Fin 32, (m4 (ix2 c r) : EReal) * u j (ix2 c l) := by
  unfold product
  pointwise
  refine Finset.sum_congr rfl fun c _ => ?_
  congr 1
  obtain ⟨j, hj⟩ := j
  have hl := l.isLt
  interval_cases j <;> dsimp only <;>
    (repeat (first | rw [dif_pos (by omega)] | rw [dif_neg (by omega)])) <;>
    refine cell_congr _ c ?_ <;> dsimp only <;> omega

/-- The sum of a pair of rows at a lane: the two levels there. -/
theorem pairSum_apply (r : FVec Ideal S1x32x1x2x112 .f32) (c : Fin 32) (l : Fin 112) :
    k0_pay7 (F := Ideal) r (ix3 c 0 l) = (Cert.Levels.quant (r (ix5 0 c 0 0 l)) + Cert.Levels.quant (r (ix5 0 c 0 1 l)) : EReal) := by
  unfold k0_pay7 Cert.Levels.quant
  pointwise
  simp only [Cert.Levels.ofBits_255, EReal.coe_zero]

set_option maxHeartbeats 2000000 in
/-- The clipped sum of a window at the window's first lane: the pairs of its four columns. -/
theorem clipped_apply (a b : FVec Ideal S32x1x112 .f32) (c : Fin 32) (w : Fin 55) (y : Fin 112 → EReal)
    (hy : ∀ l, (a (ix3 c 0 l) + b (ix3 c 0 l) : EReal) = y l) :
    (k0_pay24 (F := Ideal) k0_pay6 a b (ix2 c ⟨2 * w.val, by omega⟩) : EReal)
      = min ((y ⟨2 * w.val, by omega⟩ + y ⟨1 + 2 * w.val, by omega⟩)
          + (y ⟨2 + 2 * w.val, by omega⟩ + y ⟨1 + (2 + 2 * w.val), by omega⟩)) ((255 : ℝ) : EReal) := by
  have hw := w.isLt
  unfold k0_pay24 k0_pay6
  pointwise
  rw [dif_pos (by omega), dif_pos (by omega), dif_pos (by omega), dif_pos (by omega)]
  simp only [Cert.Levels.ofBits_255, hy]

end Cert.Block

end
-- ==== Proof.Pieces.lean ====
/- The block that one grid point writes.

   The body stores 44 pieces: for each of two images, each of eleven rows of windows and each of two output rows, the 110
   outputs of the 64 channels.  The list of the pieces is `order` mapped by one function (`pieces_eq`), so that one lemma
   about that function gives the block. -/
module

public import proofs.«01_k».proof.Proof.Block
public import proofs.«01_k».proof.Proof.Model
public import Idealize.ShloMosaic.Lib.Writes

@[expose] public section

set_option maxRecDepth 16384

noncomputable section

namespace Cert.Pieces

open Idealize.ShloMosaic Idealize.ShloMosaic.Tactic Cert.KernelIdeal Cert.KernelIdeal.Gen Cert.Block

section Body

variable (c : Dev nD) (i : grid0.Coords) (arg1 : Memref sig .tc .vmem S2x32x56x2x112 .f32) (harg1 : arg1.IsWhole)
  (arg2 : Memref sig .tc .vmem S5x32x64 .f32) (harg2 : arg2.IsWhole) (arg3 : Memref sig .tc .vmem S64x1 .f32)
  (harg3 : arg3.IsWhole) (arg4 : Memref sig .tc .vmem S2x64x11x2x110 .f32) (harg4 : arg4.IsWhole)
  (x0 : FVec Ideal S2x32x56x2x112 .f32) (x1 : FVec Ideal S5x32x64 .f32) (x2 : FVec Ideal S64x1 .f32)

/-- The pair of rows `t` of the band of grid point `i`, of image `bb`, as the body loads it. -/
def rows (bb : Fin 2) (t : Fin 12) : FVec Ideal S1x32x1x2x112 .f32 :=
  match bb with
  | 0 => View.readAt (Elt Ideal) arg1.view (Rect.unit (s := S2x32x56x2x112) (k0_off1 i (BitVec.ofNat 32 t.val))
      S1x32x1x2x112.size (k0_off1_inb i t)).toLoadRect (harg1.unread x0)
  | 1 => View.readAt (Elt Ideal) arg1.view (Rect.unit (s := S2x32x56x2x112) (k0_off2 i (BitVec.ofNat 32 t.val))
      S1x32x1x2x112.size (k0_off2_inb i t)).toLoadRect (harg1.unread x0)

/-- The mixed weights, as the body makes them. -/
def mixedLoad : FVec Ideal S32x256 .f32 :=
  k0_pay3 (View.readAt (Elt Ideal) arg2.view (Rect.unit ![0, 0, 0] S5x32x64.size inb_S5x32x64_S5x32x64_0_0_0).toLoadRect
    (harg2.unread x1))

/-- The bias, as the body loads it. -/
def biasLoad : FVec Ideal S64x1 .f32 :=
  k0_pay4 (View.readAt (Elt Ideal) arg3.view (Rect.unit ![0, 0] S64x1.size inb_S64x1_S64x1_0_0).toLoadRect (harg3.unread x2))

/-- A piece lies in the block. -/
theorem piece_inb (bb : Fin 2) (j : Fin 11) (p : Fin 2) (a : Fin S2x64x11x2x110.rank) :
    (![bb.val, 0, j.val, p.val, 0] : Fin 5 → Nat) a + S1x64x1x1x110.size a ≤ S2x64x11x2x110.size a := by
  revert bb j p a
  decide

/-- The piece of image `bb`, row of windows `j` and output row `p`. -/
def piece (q : Fin 2 × Fin 11 × Fin 2) : View.Piece (Elt Ideal) S2x64x11x2x110 .f32 :=
  ⟨Rect.unit ![q.1.val, 0, q.2.1.val, q.2.2.val, 0] S1x64x1x1x110.size (piece_inb q.1 q.2.1 q.2.2),
    stored (biasLoad arg3 harg3 x2) evenMask
      (product (mixedLoad arg2 harg2 x1) fun j => windowRow (rows i arg1 harg1 x0 q.1 j.castSucc) (rows i arg1 harg1 x0 q.1 j.succ))
      q.2.1 q.2.2⟩

/-- The pieces' order, the last stored first. -/
def order : List (Fin 2 × Fin 11 × Fin 2) :=
  [1, 0].flatMap fun bb => [10, 9, 8, 7, 6, 5, 4, 3, 2, 1, 0].flatMap fun j => [1, 0].map fun p => (bb, j, p)

/-- The stored pieces are the pieces in that order. -/
theorem pieces_eq :
    (kernelRun0_A (F := Ideal) c i arg1 harg1 arg2 harg2 arg3 harg3 arg4 harg4 x0 x1 x2).1
      = order.map (piece i arg1 harg1 arg2 harg2 arg3 harg3 x0 x1 x2) := by
  unfold kernelRun0_A
  dsimp only
  rfl

/-- The band's pair of rows `t` lies in the image. -/
theorem band_lt (t : Fin 12) : 11 * (i 0).val + t.val < 56 := by have := (i 0).isLt; have : (i 0).val < 5 := this; omega

theorem band_word (t : Fin 12) :
    (BitVec.ofNat 32 11 * BitVec.ofNat 32 (i 0).val + BitVec.ofNat 32 t.val).toNat = 11 * (i 0).val + t.val := by
  have h := band_lt i t
  simp only [BitVec.toNat_add, BitVec.toNat_mul, BitVec.toNat_ofNat]
  omega

/-- The loaded pair of rows, read at an index of the staged image. -/
theorem rows_apply (bb : Fin 2) (t : Fin 12) (ch : Fin 32) (h : Fin 2) (l : Fin 112) :
    rows i arg1 harg1 x0 bb t (ix5 0 ch 0 h l) = x0 (ix5 bb ch ⟨11 * (i 0).val + t.val, band_lt i t⟩ h l) := by
  have hw := band_word i t
  have key : ∀ (off : Fin 5 → Nat) (inb), off = ![bb.val, 0, 11 * (i 0).val + t.val, 0, 0] →
      View.readAt (Elt Ideal) arg1.view (Rect.unit (s := S2x32x56x2x112) off S1x32x1x2x112.size inb).toLoadRect (harg1.unread x0)
        (ix5 0 ch 0 h l) = x0 (ix5 bb ch ⟨11 * (i 0).val + t.val, band_lt i t⟩ h l) := by
    rintro off inb rfl
    rw [View.readAt_eq_ld, harg1.read_unread]
    pointwise
  unfold rows
  match bb with
  | 0 => exact key _ _ (by unfold k0_off1; exact congrArg (fun z => ![0, 0, z, 0, 0]) hw)
  | 1 => exact key _ _ (by unfold k0_off2; exact congrArg (fun z => ![1, 0, z, 0, 0]) hw)

/-- The four mixed weights side by side, read in the quarter of output row `p` and column `s`. -/
theorem quarter_apply (a b d e : FVec Ideal S32x64 .f32) (ch : Fin 32) (p s : Fin 2) (o : Fin 64) :
    concatenate S32x256 1 [⟨S32x64, a⟩, ⟨S32x64, b⟩, ⟨S32x64, d⟩, ⟨S32x64, e⟩]
        concatenates_S32x64_S32x64_S32x64_S32x64_S32x256_d1 (ix2 ch ⟨p.val * 128 + s.val * 64 + o.val, by omega⟩)
      = (match p, s with | 0, 0 => a | 0, 1 => b | 1, 0 => d | 1, 1 => e) (ix2 ch o) := by
  have ho := o.isLt
  have hp : p = 0 ∨ p = 1 := by omega
  have hs : s = 0 ∨ s = 1 := by omega
  pointwise
  rcases hp with rfl | rfl <;> rcases hs with rfl | rfl <;> simp only [Fin.val_zero, Fin.val_one] <;>
    (repeat (first | rw [dif_pos (by omega)] | rw [dif_neg (by omega)])) <;>
    exact congrArg _ (congrArg (ix2 ch) (Fin.ext (by dsimp only; omega)))

/-- The mixed weights at a channel and a column of the product. -/
theorem mixedLoad_apply (ch : Fin 32) (p s : Fin 2) (o : Fin 64) :
    mixedLoad arg2 harg2 x1 (ix2 ch ⟨p.val * 128 + s.val * 64 + o.val, by omega⟩)
      = Cert.Model.mix (fun k => x1 (ix3 k ch o)) p s := by
  have hp : p = 0 ∨ p = 1 := by omega
  have hs : s = 0 ∨ s = 1 := by omega
  unfold mixedLoad
  rw [View.readAt_eq_ld, harg2.read_unread]
  unfold k0_pay3
  dsimp only
  rw [quarter_apply]
  rcases hp with rfl | rfl <;> rcases hs with rfl | rfl <;> dsimp only <;> pointwise <;> rfl

/-- The bias at a channel. -/
theorem biasLoad_apply (o : Fin 64) : biasLoad arg3 harg3 x2 (ix2 o 0) = x2 (ix2 o 0) := by
  unfold biasLoad
  rw [View.readAt_eq_ld, harg3.read_unread]
  unfold k0_pay4
  pointwise
  done

/-- The levels of the staged image, over plain rows and columns. -/
def levels (b : Fin 2) (ch : Fin 32) (r l : Fin 112) : ℕ :=
  Cert.Levels.level (x0 (ix5 b ch ⟨r.val / 2, by omega⟩ ⟨r.val % 2, by omega⟩ l))

/-- The grid point's band of windows lies in the image. -/
theorem window_lt (j : Fin 11) : 11 * (i 0).val + j.val < 55 := by have := (i 0).isLt; have : (i 0).val < 5 := this; omega

/-- A pair of rows' sum at a lane, in levels. -/
theorem pair_levels (bb : Fin 2) (t : Fin 12) (ch : Fin 32) (l : Fin 112) :
    (k0_pay7 (F := Ideal) (rows i arg1 harg1 x0 bb t) (ix3 ch 0 l) : EReal)
      = (((levels x0 bb ch ⟨2 * (11 * (i 0).val + t.val), by have := band_lt i t; omega⟩ l
          + levels x0 bb ch ⟨2 * (11 * (i 0).val + t.val) + 1, by have := band_lt i t; omega⟩ l : ℕ) : ℝ) : EReal) := by
  rw [pairSum_apply, rows_apply, rows_apply, Cert.Levels.quant_eq, Cert.Levels.quant_eq, ← EReal.coe_add, ← Nat.cast_add]
  unfold levels
  congr 6 <;> first | exact Fin.ext (by dsimp only; omega) | rfl

/-- The clipped window sum that the body multiplies: the row number of the window. -/
theorem windowRow_apply (bb : Fin 2) (j : Fin 11) (ch : Fin 32) (w : Fin 55) :
    (windowRow (rows i arg1 harg1 x0 bb j.castSucc) (rows i arg1 harg1 x0 bb j.succ) (ix2 ch ⟨2 * w.val, by omega⟩) : EReal)
      = ((Cert.Model.rowNumber (levels x0 bb ch) ⟨11 * (i 0).val + j.val, window_lt i j⟩ w : ℝ) : EReal) := by
  unfold windowRow
  rw [clipped_apply _ _ _ _ _ fun l => by
    rw [pair_levels, pair_levels, ← EReal.coe_add, ← Nat.cast_add]]
  simp only [← EReal.coe_add, ← Nat.cast_add]
  rw [min_comm]
  unfold Cert.Model.rowNumber Cert.Model.windowSum
  rw [show ((255 : ℝ) : EReal) = (((255 : ℕ) : ℝ) : EReal) by norm_num, ← EReal.coe_strictMono.monotone.map_min, ← Nat.cast_min]
  simp only [Fin.sum_univ_four]
  congr 3
  let f : ℕ → ℕ → ℕ := fun r l => if h : r < 112 ∧ l < 112 then levels x0 bb ch ⟨r, h.1⟩ ⟨l, h.2⟩ else 0
  have hf : ∀ r l (hr : r < 112) (hl : l < 112), levels x0 bb ch ⟨r, hr⟩ ⟨l, hl⟩ = f r l :=
    fun r l hr hl => by simp only [f]; rw [dif_pos ⟨hr, hl⟩]
  simp only [hf, Fin.val_castSucc, Fin.val_succ, Fin.val_zero, Fin.val_one, Fin.val_two, show ((3 : Fin 4) : ℕ) = 3 from rfl]
  clear_value f
  ring_nf

/-- What the grid point's block holds at an index. -/
def blockVal (b : Fin 2) (o : Fin 64) (j : Fin 11) (p : Fin 2) (l : Fin 110) : EReal :=
  Cert.Model.output (levels x0 b) (fun ch k => x1 (ix3 k ch o)) (x2 (ix2 o 0)) ⟨11 * (i 0).val + j.val, window_lt i j⟩ p l

theorem blockVal_congr {b b' : Fin 2} {o o' : Fin 64} {j j' : Fin 11} {p p' : Fin 2} {l l' : Fin 110} (hb : b.val = b'.val)
    (ho : o.val = o'.val) (hj : j.val = j'.val) (hp : p.val = p'.val) (hl : l.val = l'.val) :
    blockVal i x0 x1 x2 b o j p l = blockVal i x0 x1 x2 b' o' j' p' l' := by
  rw [Fin.ext hb, Fin.ext ho, Fin.ext hj, Fin.ext hp, Fin.ext hl]

/-- A piece agrees with the block where it lies. -/
theorem piece_agrees (q : Fin 2 × Fin 11 × Fin 2) (x : S1x64x1x1x110.Idx) :
    (piece i arg1 harg1 arg2 harg2 arg3 harg3 x0 x1 x2 q).2 x
      = blockVal i x0 x1 x2 q.1 (x 1) q.2.1 q.2.2 (x 4) := by
  obtain ⟨b, j, p⟩ := q
  obtain ⟨o, l, rfl⟩ : ∃ (o : Fin 64) (l : Fin 110), x = ix5 0 o 0 0 l :=
    ⟨x 1, x 4, (eq_ix5 x).trans (by
      rw [show x 0 = (0 : Fin 1) from Subsingleton.elim (α := Fin 1) _ _, show x 2 = (0 : Fin 1) from Subsingleton.elim (α := Fin 1) _ _,
        show x 3 = (0 : Fin 1) from Subsingleton.elim (α := Fin 1) _ _])⟩
  show stored _ _ _ j p (ix5 0 o 0 0 l) = blockVal i x0 x1 x2 b o j p l
  rw [stored_apply]
  unfold blockVal Cert.Model.output
  rw [biasLoad_apply]
  refine congrArg (· + x2 (ix2 o 0)) ?_
  have hl : (⟨j.val * 128 + (l.val - l.val % 2), by omega⟩ : Fin 1408)
      = ⟨j.val * 128 + (⟨2 * (Cert.Model.windowOf l).val, by omega⟩ : Fin 128).val, by omega⟩ :=
    Fin.ext (by simp only [Cert.Model.windowOf]; omega)
  rw [hl, product_apply]
  refine Finset.sum_congr rfl fun ch _ => ?_
  rw [windowRow_apply]
  exact congrArg (· * _) (mixedLoad_apply arg2 harg2 x1 ch p (Cert.Model.side l) o)

/-- The block that a grid point writes, at an index. -/
theorem block_apply (b : Fin 2) (o : Fin 64) (j : Fin 11) (p : Fin 2) (l : Fin 110) :
    out0_A_3 (F := Ideal) c i arg1 harg1 arg2 harg2 arg3 harg3 arg4 harg4 x0 x1 x2 (ix5 b o j p l)
      = blockVal i x0 x1 x2 b o j p l := by
  unfold out0_A_3
  refine View.read_writes_apply_of_pieces (Val := Elt Ideal) VO0_3 _
    (fun y => blockVal i x0 x1 x2 (y 0) (y 1) (y 2) (y 3) (y 4)) _ ?_ (ix5 b o j p l) (cover0_A_3 ..)
  rw [pieces_eq]
  intro pc hpc x
  obtain ⟨q, _, rfl⟩ := List.mem_map.mp hpc
  refine (piece_agrees i arg1 harg1 arg2 harg2 arg3 harg3 x0 x1 x2 q x).trans ?_
  have h0 : (x 0).val < 1 := (x 0).isLt
  have h2 : (x 2).val < 1 := (x 2).isLt
  have h3 : (x 3).val < 1 := (x 3).isLt
  have he : ∀ a, ((piece i arg1 harg1 arg2 harg2 arg3 harg3 x0 x1 x2 q).1.emb x a).val
      = (![q.1.val, 0, q.2.1.val, q.2.2.val, 0] : Fin 5 → Nat) a + (x a).val := fun a => by
    rw [Rect.emb_apply]
    show (![q.1.val, 0, q.2.1.val, q.2.2.val, 0] : Fin 5 → Nat) a + 1 * (x a).val = _
    omega
  refine blockVal_congr i x0 x1 x2 ?_ ?_ ?_ ?_ ?_
  · rw [he]; show q.1.val = q.1.val + (x 0).val; omega
  · rw [he]; show (x 1).val = 0 + (x 1).val; omega
  · rw [he]; show q.2.1.val = q.2.1.val + (x 2).val; omega
  · rw [he]; show q.2.2.val = q.2.2.val + (x 3).val; omega
  · rw [he]; show (x 4).val = 0 + (x 4).val; omega

end Body

end Cert.Pieces

end
-- ==== Proof.Array.lean ====
/- The kernel's result array: the blocks of the five grid points put together. -/
module

public import proofs.«01_k».proof.Proof.Pieces
public import Idealize.ShloMosaic.Lib.Pipeline.ValueKit.Point

@[expose] public section

set_option maxRecDepth 16384

noncomputable section

namespace Cert.Array

open Idealize.ShloMosaic Idealize.ShloMosaic.TcCoe Cert.KernelIdeal Cert.KernelIdeal.Gen

variable (m : (ℓ : Loc nD τ sig) → Buf (Elt Ideal) ℓ)

/-- The staged block of the reshaped image is the whole of it. -/
theorem iblk_image (c : Dev nD) (t : Fin cfg0.N) : iblk m c 0 t = V m c main_v0 := by
  have e : ∀ t : Fin cfg0.N, win0_0.index t = ![0, 0, 0, 0, 0] := (by decide +kernel : ∀ t : Fin grid0.N, _)
  blk_ext! [iblk, e]

/-- The staged block of the stacked weights is the whole of them. -/
theorem iblk_weights (c : Dev nD) (t : Fin cfg0.N) : iblk m c 1 t = V m c main_v19 := by
  have e : ∀ t : Fin cfg0.N, win0_1.index t = ![0, 0, 0] := (by decide +kernel : ∀ t : Fin grid0.N, _)
  blk_ext! [iblk, e]

/-- The staged block of the bias is the whole of it. -/
theorem iblk_bias (c : Dev nD) (t : Fin cfg0.N) : iblk m c 2 t = V m c main_v20 := by
  have e : ∀ t : Fin cfg0.N, win0_2.index t = ![0, 0] := (by decide +kernel : ∀ t : Fin grid0.N, _)
  blk_ext! [iblk, e]

/-- The result array over the host's operands. -/
def fromOperands (x0 : FVec Ideal S2x32x56x2x112 .f32) (x1 : FVec Ideal S5x32x64 .f32) (x2 : FVec Ideal S64x1 .f32) :
    FVec Ideal S2x64x55x2x110 .f32 := fun y =>
  Cert.Model.output (Cert.Pieces.levels x0 (y 0)) (fun ch k => x1 (ix3 k ch (y 1))) (x2 (ix2 (y 1) 0)) (y 2) (y 3) (y 4)

/-- The output at coordinates of the same numbers. -/
theorem output_congr (x0 : FVec Ideal S2x32x56x2x112 .f32) (x1 : FVec Ideal S5x32x64 .f32) (x2 : FVec Ideal S64x1 .f32)
    {b b' : Fin 2} {o o' : Fin 64} {t t' : Fin 55} {p p' : Fin 2} {l l' : Fin 110}
    (hb : b'.val = b.val) (ho : o'.val = o.val) (ht : t'.val = t.val) (hp : p'.val = p.val) (hl : l'.val = l.val) :
    Cert.Model.output (Cert.Pieces.levels x0 b) (fun ch k => x1 (ix3 k ch o)) (x2 (ix2 o 0)) t p l
      = Cert.Model.output (Cert.Pieces.levels x0 b') (fun ch k => x1 (ix3 k ch o')) (x2 (ix2 o' 0)) t' p' l' := by
  rw [Fin.ext hb, Fin.ext ho, Fin.ext ht, Fin.ext hp, Fin.ext hl]

/-- The array after the run, over the host's operands. -/
theorem array_operands (c : Dev nD) :
    (dats m 0 c).arrAt 3 cfg0.N = fromOperands (V m c main_v0) (V m c main_v19) (V m c main_v20) := by
  have e : ∀ t : Fin cfg0.N, win0_3.index t = ![0, 0, (grid0.coords t 0).val, 0, 0] :=
    (by decide +kernel : ∀ t : Fin grid0.N, _)
  refine (dats m 0 c).arrAt_eq_of_covers 3 _ (by decide +kernel) fun t hf y => ?_
  blk_simp
  rw [after0_3]
  unfold outsAt0
  rw [iblk_image, iblk_weights, iblk_bias]
  have hy : (y : S2x64x11x2x110.Idx) = ix5 (y 0) (y 1) (y 2) (y 3) (y 4) := eq_ix5 y
  refine (congrArg _ hy).trans ((Cert.Pieces.block_apply c (grid0.coords t) _ _ _ _ _ _ _ _ _ _ _ (y 0) (y 1) (y 2) (y 3) (y 4)).trans ?_)
  have h0 : ((win0_3.blk t).view.emb y 0).val = (y 0).val := by blk_simp [e]
  have h1 : ((win0_3.blk t).view.emb y 1).val = (y 1).val := by blk_simp [e]
  have h2 : ((win0_3.blk t).view.emb y 2).val = 11 * (grid0.coords t 0).val + (y 2).val := by blk_simp [e]; omega
  have h3 : ((win0_3.blk t).view.emb y 3).val = (y 3).val := by blk_simp [e]
  have h4 : ((win0_3.blk t).view.emb y 4).val = (y 4).val := by blk_simp [e]
  unfold Cert.Pieces.blockVal fromOperands
  exact output_congr _ _ _ h0 h1 h2 h3 h4

end Cert.Array

end
-- ==== Proof.Operands.lean ====
/- The operands that the host makes from the arguments, read at an index: the image with its rows in pairs, the five
   weights that the mixed sums use, the bias as a column. -/
module

public import proofs.«01_k».proof.Proof.Gen.KernelIdeal.Value
public import Idealize.ShloMosaic.Lib.Pipeline.ValueKit.Point
public import Idealize.ShloMosaic.Lib.StableHlo.ReadAt

@[expose] public section

set_option maxRecDepth 16384

noncomputable section

namespace Cert.Operands

open Idealize.ShloMosaic Idealize.ShloMosaic.TcCoe Cert.KernelIdeal Cert.KernelIdeal.Gen

variable (m : (ℓ : Loc nD τ sig) → Buf (Elt Ideal) ℓ)

/-- The reshaped image: the row of a pair is the pair's number doubled plus the place in the pair. -/
theorem image_apply (c : Dev nD) (b : Fin 2) (ch : Fin 32) (r : Fin 56) (h : Fin 2) (l : Fin 112) :
    V m c main_v0 (ix5 b ch r h l) = m ((c : Thread nD τ).loc main_arg0) (ix4 b ch ⟨2 * r.val + h.val, by omega⟩ l) := by
  entry_read
  clean_types
  pointwise
  exact congrArg (m (c, Proc.tc.devRef main_arg0)) (congrArg (fun z => ix4 b ch z l) (Fin.ext (by dsimp only; omega)))

/-- The bias as a column. -/
theorem bias_apply (c : Dev nD) (o : Fin 64) :
    V m c main_v20 (ix2 o 0) = m ((c : Thread nD τ).loc main_arg2) (ix1 o) := by
  entry_read
  clean_types
  pointwise

/-- Five weights stacked and turned, read at one of them. -/
theorem stack_apply (p0 p1 p2 p3 p4 : FVec Ideal S1x64x32 .f32) (k : Fin 5) (ch : Fin 32) (o : Fin 64) :
    transpose S5x32x64 [0, 2, 1] (concatenate S5x64x32 0 [⟨S1x64x32, p0⟩, ⟨S1x64x32, p1⟩, ⟨S1x64x32, p2⟩, ⟨S1x64x32, p3⟩,
        ⟨S1x64x32, p4⟩] concatenates_S1x64x32_S1x64x32_S1x64x32_S1x64x32_S1x64x32_S5x64x32_d0)
      transposes_S5x64x32_S5x32x64_0_2_1 (ix3 k ch o)
    = (match k with | 0 => p0 | 1 => p1 | 2 => p2 | 3 => p3 | 4 => p4) (ix3 0 o ch) := by
  pointwise
  match k with
  | 0 => rfl
  | 1 => rfl
  | 2 => rfl
  | 3 => rfl
  | 4 => rfl

/-- The stacked weights: entry 1 of the table at the five positions. -/
theorem weights_apply (c : Dev nD) (k : Fin 5) (ch : Fin 32) (o : Fin 64) :
    V m c main_v19 (ix3 k ch o) = m ((c : Thread nD τ).loc main_arg1)
      (match k with
        | 0 => ix5 o ch 0 0 1 | 1 => ix5 o ch 1 1 1 | 2 => ix5 o ch 1 2 1 | 3 => ix5 o ch 2 2 1 | 4 => ix5 o ch 3 1 1) := by
  unfold V
  after_reads_simp
  refine (stack_apply _ _ _ _ _ k ch o).trans ?_
  match k with
  | 0 => dsimp only [Matrix.cons_val]; after_reads_simp; clean_types; pointwise
  | 1 => dsimp only [Matrix.cons_val]; after_reads_simp; clean_types; pointwise
  | 2 => dsimp only [Matrix.cons_val]; after_reads_simp; clean_types; pointwise
  | 3 => dsimp only [Matrix.cons_val]; after_reads_simp; clean_types; pointwise
  | 4 => dsimp only [Matrix.cons_val]; after_reads_simp; clean_types; pointwise

end Cert.Operands

end
-- ==== Proof.Target.lean ====
/- The result over the arguments, and that the kernel leaves it. -/
module

public import proofs.«01_k».proof.Proof.Array
public import proofs.«01_k».proof.Proof.Operands

@[expose] public section

set_option maxRecDepth 16384

noncomputable section

namespace Cert.Target

open Idealize.ShloMosaic Idealize.ShloMosaic.TcCoe Cert.KernelIdeal Cert.KernelIdeal.Gen

/-- The levels of one image and channel of the argument. -/
def levels (x0 : FVec Ideal S2x32x112x112 .f32) (b : Fin 2) (ch : Fin 32) (r l : Fin 112) : ℕ :=
  Cert.Levels.level (x0 (ix4 b ch r l))

/-- The position of the window that each of the five weights belongs to. -/
def place : Fin 5 → Fin 4 × Fin 4
  | 0 => (0, 0)
  | 1 => (1, 1)
  | 2 => (1, 2)
  | 3 => (2, 2)
  | 4 => (3, 1)

/-- The five weights of one output and one input channel: entry 1 of the table at each position. -/
def weights (x1 : FVec Ideal S64x32x4x4x256 .f32) (o : Fin 64) (ch : Fin 32) (k : Fin 5) : EReal :=
  x1 (ix5 o ch (place k).1 (place k).2 1)

/-- The result over the arguments. -/
def result (x0 : FVec Ideal S2x32x112x112 .f32) (x1 : FVec Ideal S64x32x4x4x256 .f32) (x2 : FVec Ideal S64 .f32) :
    FVec Ideal S2x64x55x2x110 .f32 :=
  fun y => Cert.Model.output (levels x0 (y 0)) (weights x1 (y 1)) (x2 (ix1 (y 1))) (y 2) (y 3) (y 4)

variable (m : (ℓ : Loc nD τ sig) → Buf (Elt Ideal) ℓ)

/-- The levels of the reshaped image are those of the image. -/
theorem levels_eq (c : Dev nD) (b : Fin 2) :
    Cert.Pieces.levels (V m c main_v0) b = levels (m ((c : Thread nD τ).loc main_arg0)) b := by
  funext ch r l
  unfold Cert.Pieces.levels levels
  refine congrArg Cert.Levels.level ((Cert.Operands.image_apply m c b ch _ _ l).trans ?_)
  exact congrArg (m ((c : Thread nD τ).loc main_arg0)) (congrArg (fun z => ix4 b ch z l) (Fin.ext (by dsimp only; omega)))

/-- The stacked weights are the table's entries at 1. -/
theorem weights_eq (c : Dev nD) (o : Fin 64) :
    (fun (ch : Fin 32) (k : Fin 5) => V m c main_v19 (ix3 k ch o)) = weights (m ((c : Thread nD τ).loc main_arg1)) o := by
  funext ch k
  refine (Cert.Operands.weights_apply m c k ch o).trans ?_
  match k with
  | 0 => rfl
  | 1 => rfl
  | 2 => rfl
  | 3 => rfl
  | 4 => rfl

/-- The array that the kernel leaves is the result over the arguments. -/
theorem array_eq (c : Dev nD) : (dats m 0 c).arrAt 3 cfg0.N
    = result (m ((c : Thread nD τ).loc main_arg0)) (m ((c : Thread nD τ).loc main_arg1)) (m ((c : Thread nD τ).loc main_arg2)) := by
  refine (Cert.Array.array_operands m c).trans (funext fun y => ?_)
  unfold Cert.Array.fromOperands result
  rw [levels_eq m c (y 0), weights_eq m c (y 1), Cert.Operands.bias_apply m c (y 1)]

end Cert.Target

end
-- ==== Proof.Table.lean ====
/- What the precondition says of the table: every row is a multiple of the entry at 1, which is finite. -/
module

public import proofs.«01_k».proof.Proof.Gen.Pre_linear_table
public import Idealize.ShloMosaic.Lib.ReduceAll
public import Idealize.ShloMosaic.Lib.StableHlo.Predicate
public import Idealize.ShloMosaic.Lib.Pointwise
public import Idealize.ShloMosaic.Lib.IdealHost

@[expose] public section

set_option maxRecDepth 16384

noncomputable section

namespace Cert.Table

open Idealize.ShloMosaic Cert.Pre_linear_table Cert.Pre_linear_table.Gen

variable (x0 : FVec Ideal S2x32x112x112 .f32) (x1 : FVec Ideal S64x32x4x4x256 .f32) (x2 : FVec Ideal S64 .f32)

/-- A conjunction of bits is one only if both are. -/
theorem bits_and {a b : BitVec 1} (h : IntOp.andi a b = 1#1) : a = 1#1 ∧ b = 1#1 := by
  revert h; revert a b; decide

/-- The two facts that the precondition states of one entry. -/
theorem parts (h : Cert.Pre_linear_table.fn (F := Ideal) x0 x1 x2 = fun _ => 1#1) (o : Fin 64) (c : Fin 32) (i j : Fin 4)
    (k : Fin 256) : x1 (ix5 o c i j k) = x1 (ix5 o c i j 1) * ((k.val : ℝ) : EReal)
      ∧ ∃ r : ℝ, x1 (ix5 o c i j 1) = (r : EReal) := by
  unfold Cert.Pre_linear_table.fn at h
  have h0 := bits_and (congrFun h (fun a => a.elim0))
  have h1 := Host.reduce_andi_all _ _ _ _ _ h0.1 (ix5 o c i j k)
  have h2 := Host.reduce_andi_all _ _ _ _ _ h0.2 (ix5 o c i j 0)
  clear h0 h
  pointwise at h1
  pointwise at h2
  constructor
  · have e : x1 (ix5 o c i j k) = x1 (ix5 o c i j 1) * (((BitVec.ofNat 32 k.val).toInt : ℝ) : EReal) :=
      of_decide_eq_true ((StableHlo.Predicate.ofBool_eq_one_iff _).1 h1)
    rw [StableHlo.Predicate.toInt_ofNat_small _ (by omega)] at e
    exact_mod_cast e
  · have e : max (x1 (ix5 o c i j 1) : EReal) (-(x1 (ix5 o c i j 1) : EReal)) < Ideal.ofBits FTy.f32 2139095040#32 :=
      of_decide_eq_true ((StableHlo.Predicate.ofBool_eq_one_iff _).1 h2)
    rw [show Ideal.ofBits FTy.f32 2139095040#32 = (⊤ : EReal) by simp [Ideal.ofBits, Ideal.ieee]] at e
    generalize (x1 (ix5 o c i j 1) : EReal) = w at e ⊢
    induction w using EReal.rec with
    | bot => simp at e
    | top => simp at e
    | coe r => exact ⟨r, rfl⟩

end Cert.Table

end
-- ==== Proof.Agree.lean ====
/- The reference's value is the result over the arguments, for a table whose rows are the multiples of finite weights. -/
module

public import proofs.«01_k».proof.Proof.Equation
public import proofs.«01_k».proof.Proof.Lookups
public import proofs.«01_k».proof.Proof.Target
public import proofs.«01_k».proof.Proof.Table

@[expose] public section

set_option maxRecDepth 16384

noncomputable section

namespace Cert.Agree

open Idealize.ShloMosaic Cert.ReferenceIdeal Cert.ReferenceIdeal.Gen Cert.ReferenceIdeal.Value

variable (V0 : Valuation τ sig (Elt Ideal))

/-- The window of a lane in row `t` of windows, among all windows. -/
def flat (t : Fin 55) (l : Fin 110) : Fin 3025 := ⟨t.val * 55 + l.val / 2, by omega⟩

/-- The row that the reference names at one position of that window, as a real. -/
theorem row_real (b : Fin 2) (ch : Fin 32) (a e : Fin 4) (t : Fin 55) (l : Fin 110) :
    ((Cert.Words.row V0 b ch a e (flat t l)).val : ℝ)
      = if Cert.Words.sign a e = 1 then (Cert.Model.rowNumber (Cert.Words.levels V0 b ch) t (Cert.Model.windowOf l) : ℝ) else 0 := by
  have h1 : (⟨(flat t l).val / 55, by omega⟩ : Fin 55) = t := Fin.ext (by unfold flat; dsimp only; omega)
  have h2 : (⟨(flat t l).val % 55, by omega⟩ : Fin 55) = Cert.Model.windowOf l :=
    Fin.ext (by unfold flat Cert.Model.windowOf; dsimp only; omega)
  rw [Cert.Words.row_val, h1, h2]
  split <;> simp

/-- One stacked sum, for a table of weights `w`. -/
theorem stacked_real (x1 : FVec Ideal S64x32x4x4x256 .f32) (hx : V0 (Proc.devRef .tc main_arg1) = x1)
    (w : Fin 64 → Fin 32 → Fin 4 → Fin 4 → ℝ)
    (hw : ∀ o ch a e k, (x1 (ix5 o ch a e k) : EReal) = ((w o ch a e * (k.val : ℝ) : ℝ) : EReal))
    (b : Fin 2) (o : Fin 64) (a e : Fin 4) (t : Fin 55) (l : Fin 110) :
    (res_main_v302 V0 (ix4 b o ⟨a.val * 4 + e.val, by omega⟩ (flat t l)) : EReal)
      = ((Cert.Equation.channelSum (w o)
          (fun ch => (Cert.Model.rowNumber (Cert.Words.levels V0 b ch) t (Cert.Model.windowOf l) : ℝ)) a e : ℝ) : EReal) := by
  subst hx
  refine (Cert.Lookups.stacked_apply V0 b o _ _).trans ((Cert.Lookups.piece_apply V0 _ b o _).trans ?_)
  unfold Cert.Equation.channelSum
  refine Eq.trans ?_ (Cert.Model.real_sum _ _).symm
  refine Finset.sum_congr rfl fun ch _ => ?_
  have h1 : (⟨(a.val * 4 + e.val) / 4, by omega⟩ : Fin 4) = a := Fin.ext (by dsimp only; omega)
  have h2 : (⟨(a.val * 4 + e.val) % 4, by omega⟩ : Fin 4) = e := Fin.ext (by dsimp only; omega)
  dsimp only
  rw [h1, h2]
  refine (hw o ch a e _).trans ?_
  rw [row_real]

/-- The mixed weights of a real table are real. -/
theorem mix_real (x1 : FVec Ideal S64x32x4x4x256 .f32) (w : Fin 64 → Fin 32 → Fin 4 → Fin 4 → ℝ)
    (hw : ∀ o ch a e k, (x1 (ix5 o ch a e k) : EReal) = ((w o ch a e * (k.val : ℝ) : ℝ) : EReal))
    (o : Fin 64) (ch : Fin 32) (p s : Fin 2) :
    Cert.Model.mix (Cert.Target.weights x1 o ch) p s = ((Cert.Equation.mix (w o ch) p s : ℝ) : EReal) := by
  have h : ∀ k, Cert.Target.weights x1 o ch k = ((w o ch (Cert.Target.place k).1 (Cert.Target.place k).2 : ℝ) : EReal) := by
    intro k
    refine (hw o ch _ _ 1).trans ?_
    simp
  match p, s with
  | 0, 0 => simp only [Cert.Model.mix, Cert.Equation.mix, h, Cert.Target.place, EReal.coe_add, EReal.coe_sub]
  | 0, 1 => simp only [Cert.Model.mix, Cert.Equation.mix, h, Cert.Target.place, EReal.coe_add, EReal.coe_sub]
  | 1, 0 => simp only [Cert.Model.mix, Cert.Equation.mix, h, Cert.Target.place, EReal.coe_add, EReal.coe_sub]
  | 1, 1 => simp only [Cert.Model.mix, Cert.Equation.mix, h, Cert.Target.place, EReal.coe_add, EReal.coe_sub]

/-- The reference's value at an index, for a table of real weights. -/
theorem reference_apply (x1 : FVec Ideal S64x32x4x4x256 .f32) (x2 : FVec Ideal S64 .f32) (h1 : V0 (Proc.devRef .tc main_arg1) = x1)
    (w : Fin 64 → Fin 32 → Fin 4 → Fin 4 → ℝ)
    (hw : ∀ o ch a e k, (x1 (ix5 o ch a e k) : EReal) = ((w o ch a e * (k.val : ℝ) : ℝ) : EReal))
    (b : Fin 2) (o : Fin 64) (t : Fin 55) (p : Fin 2) (l : Fin 110) :
    (Cert.Transform.transform (res_main_v302 V0) x2 (ix5 b o t p l) : EReal)
      = Cert.Model.output (Cert.Words.levels V0 b) (Cert.Target.weights x1 o) (x2 (ix1 o)) t p l := by
  refine (Cert.Transform.transform_apply _ x2 b o t p l _ fun a e => stacked_real V0 x1 h1 w hw b o a e t l).trans ?_
  rw [Cert.Equation.mixed_channelSum]
  unfold Cert.Model.output
  refine congrArg (fun z : EReal => z + x2 (ix1 o)) ((Cert.Model.real_sum _ _).trans ?_)
  refine Finset.sum_congr rfl fun ch _ => ?_
  rw [mix_real x1 w hw, EReal.coe_mul]

/-- The reference's value over the arguments, under the precondition. -/
theorem reference_eq (x0 : FVec Ideal S2x32x112x112 .f32) (x1 : FVec Ideal S64x32x4x4x256 .f32) (x2 : FVec Ideal S64 .f32)
    (h : Cert.Pre_linear_table.fn (F := Ideal) x0 x1 x2 = fun _ => 1#1)
    (h0 : V0 (Proc.devRef .tc main_arg0) = x0) (h1 : V0 (Proc.devRef .tc main_arg1) = x1) :
    Cert.Transform.transform (res_main_v302 V0) x2 = Cert.Target.result x0 x1 x2 := by
  have hr : ∀ o ch a e, ∃ r : ℝ, x1 (ix5 o ch a e 1) = (r : EReal) := fun o ch a e => (Cert.Table.parts x0 x1 x2 h o ch a e 0).2
  choose w hw using hr
  funext y
  have hy : (y : S2x64x55x2x110.Idx) = ix5 (y 0) (y 1) (y 2) (y 3) (y 4) := eq_ix5 y
  refine (congrArg (Cert.Transform.transform (res_main_v302 V0) x2) hy).trans
    ((reference_apply V0 x1 x2 h1 w (fun o ch a e k => ?_) (y 0) (y 1) (y 2) (y 3) (y 4)).trans ?_)
  · rw [(Cert.Table.parts x0 x1 x2 h o ch a e k).1, hw, EReal.coe_mul]
  · subst h0
    rfl

end Cert.Agree

end
-- ==== Proof.lean ====
/- The claims, put together: the two kernels and the reference run and leave their arguments, the idealized kernel is the
   kernel's own text, and the kernel's result is the reference's for a table of multiples of finite weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_linear_table
public import proofs.«01_k».proof.Proof.Agree
public import Idealize.ShloMosaic.Lib.Quiescent
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- The reference runs, leaves its arguments, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  θ_run_mono (Cert.ReferenceIdeal.Value.run m g) fun r hr => ⟨fun c => (hr c).2, sem_eq_zero_of_no_sems (by decide) r.2⟩

/-- The kernel's result and the reference's, from the same arguments under the precondition. -/
theorem results_agree : Cert.algebraic_KernelIdeal_ReferenceIdeal_pre_linear_table := by
  intro m g m' g' hpre hargs
  refine ⟨fun c => (Cert.KernelIdeal.Gen.dats m 0 c).arrAt 3 Cert.KernelIdeal.cfg0.N, Cert.KernelIdeal.Value.run_blocks m g,
    θ_run_mono (Cert.ReferenceIdeal.Value.run m' g') fun r hr c => ⟨?_, (hr c).2⟩⟩
  obtain ⟨h0, h1, h2⟩ := hargs c
  refine (hr c).1.trans (Eq.trans ?_ (Cert.Target.array_eq m c).symm)
  refine Eq.trans ?_ (Cert.Agree.reference_eq (StableHlo.launchContents m' c) _ _ _ (hpre c) h0 h1)
  exact congrArg (Cert.Transform.transform (Cert.ReferenceIdeal.Value.res_main_v302 (StableHlo.launchContents m' c))) h2

/-- All the claims. -/
theorem claim : Cert.Claim :=
  ⟨Cert.Kernel.Gen.facts, Cert.KernelIdeal.Gen.facts, Cert.ReferenceIdeal.Gen.facts, Cert.Pre_linear_table.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, results_agree⟩

end Cert.Proof

end
